-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_inputs [hPre_finite_router_inputs : Cert.Pre_finite_router_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_inputs [hPre_finite_router_inputs : Cert.Pre_finite_router_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_queries_and_keys [hPre_finite_queries_and_keys : Cert.Pre_finite_queries_and_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_queries_and_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_queries_and_keys [hPre_finite_queries_and_keys : Cert.Pre_finite_queries_and_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_queries_and_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_router_inputs [hKernelIdeal : Cert.KernelIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_router_inputs [hReferenceIdeal : Cert.ReferenceIdeal.Facts] [hPre_finite_router_inputs : Cert.Pre_finite_router_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite_queries_and_keys [hKernel3Ideal : Cert.Kernel3Ideal.Facts] [hPre_finite_queries_and_keys : Cert.Pre_finite_queries_and_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_queries_and_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite_queries_and_keys [hReference3Ideal : Cert.Reference3Ideal.Facts] [hPre_finite_queries_and_keys : Cert.Pre_finite_queries_and_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_queries_and_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_router_inputs [hKernelIdeal : Cert.KernelIdeal.Facts] [hReferenceIdeal : Cert.ReferenceIdeal.Facts] [hPre_finite_router_inputs : Cert.Pre_finite_router_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥

def algebraic_Kernel3Ideal_Reference3Ideal_pre_finite_queries_and_keys [hKernel3Ideal : Cert.Kernel3Ideal.Facts] [hReference3Ideal : Cert.Reference3Ideal.Facts] [hPre_finite_queries_and_keys : Cert.Pre_finite_queries_and_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_queries_and_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_router_inputs : Cert.Pre_finite_router_inputs.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_router_inputs (hKernelIdeal := hKernelIdeal) (hPre_finite_router_inputs := hPre_finite_router_inputs)
    ∧ quiescent_ReferenceIdeal (hReferenceIdeal := hReferenceIdeal)
    ∧ quiescent_ReferenceIdeal_pre_finite_router_inputs (hReferenceIdeal := hReferenceIdeal) (hPre_finite_router_inputs := hPre_finite_router_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_queries_and_keys (hKernel3Ideal := hKernel3Ideal) (hPre_finite_queries_and_keys := hPre_finite_queries_and_keys)
    ∧ quiescent_Reference3Ideal (hReference3Ideal := hReference3Ideal)
    ∧ quiescent_Reference3Ideal_pre_finite_queries_and_keys (hReference3Ideal := hReference3Ideal) (hPre_finite_queries_and_keys := hPre_finite_queries_and_keys)
    ∧ preserves_Kernel_KernelIdeal
    ∧ algebraic_KernelIdeal_ReferenceIdeal_pre_finite_router_inputs (hKernelIdeal := hKernelIdeal) (hReferenceIdeal := hReferenceIdeal) (hPre_finite_router_inputs := hPre_finite_router_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_queries_and_keys (hKernel3Ideal := hKernel3Ideal) (hReference3Ideal := hReference3Ideal) (hPre_finite_queries_and_keys := hPre_finite_queries_and_keys)
-- ==== Pre_finite_queries_and_keys.lean ====
abbrev S2x8448x2560 : Shape := ⟨3, ![2, 8448, 2560]⟩
abbrev S2x8448x1024 : Shape := ⟨3, ![2, 8448, 1024]⟩
abbrev S2x8448x256 : Shape := ⟨3, ![2, 8448, 256]⟩
abbrev S_ : Shape := ⟨0, ![]⟩

class Facts : Prop where
  slices_S2x8448x2560_S2x8448x256_0_0_1024 : S2x8448x2560.Slices ![0, 0, 1024] S2x8448x256
  bitsLt_bf16_f32 : FTy.bits .bf16 < FTy.bits .f32
  bcast_S_S2x8448x256 : S_.BroadcastsInDim S2x8448x256 (![] : Fin 0 → Fin S2x8448x256.rank)
  reducesTo_S2x8448x256_S_d0_1_2 : S2x8448x256.ReducesTo [0, 1, 2] S_
  h_S_ : 0 < S_.numel
  slices_S2x8448x1024_S2x8448x256_0_0_512 : S2x8448x1024.Slices ![0, 0, 512] S2x8448x256

variable [Facts]

def fn {F : FTy → Type} [FloatOps F] (main_arg0 : FVec F S2x8448x2560 .bf16) (main_arg1 : FVec F S2x8448x1024 .bf16) : IVec S_ 1 :=
  let main_v0 : FVec F S2x8448x256 .bf16 := (extractStridedSlice S2x8448x256 ![0, 0, 1024] · slices_S2x8448x2560_S2x8448x256_0_0_1024) main_arg0
  let main_v1 : FVec F S2x8448x256 .f32 := (extf .f32 · bitsLt_bf16_f32) main_v0
  let main_v2 : FVec F S2x8448x256 .f32 := Host.absf main_v1
  let main_cst : FVec F S_ .f32 := constant S_ .f32 0x7F800000#32
  let main_v3 : FVec F S2x8448x256 .f32 := broadcastInDim S2x8448x256 ![] bcast_S_S2x8448x256 main_cst
  let main_v4 : IVec S2x8448x256 1 := cmpf .olt main_v2 main_v3
  let main_c : IVec S_ 1 := constantI S_ 1 1#1
  let main_v5 : IVec S_ 1 := (fun x v => Host.reduce IntOp.andi x v reducesTo_S2x8448x256_S_d0_1_2 h_S_) main_v4 main_c
  let main_v6 : FVec F S2x8448x256 .bf16 := (extractStridedSlice S2x8448x256 ![0, 0, 512] · slices_S2x8448x1024_S2x8448x256_0_0_512) main_arg1
  let main_v7 : FVec F S2x8448x256 .f32 := (extf .f32 · bitsLt_bf16_f32) main_v6
  let main_v8 : FVec F S2x8448x256 .f32 := Host.absf main_v7
  let main_cst_0 : FVec F S_ .f32 := constant S_ .f32 0x7F800000#32
  let main_v9 : FVec F S2x8448x256 .f32 := broadcastInDim S2x8448x256 ![] bcast_S_S2x8448x256 main_cst_0
  let main_v10 : IVec S2x8448x256 1 := cmpf .olt main_v8 main_v9
  let main_c_1 : IVec S_ 1 := constantI S_ 1 1#1
  let main_v11 : IVec S_ 1 := (fun x v => Host.reduce IntOp.andi x v reducesTo_S2x8448x256_S_d0_1_2 h_S_) main_v10 main_c_1
  let main_v12 : IVec S_ 1 := andi main_v5 main_v11
  main_v12
-- ==== Pre_finite_router_inputs.lean ====
abbrev S2x8448x1024 : Shape := ⟨3, ![2, 8448, 1024]⟩
abbrev S2x3x1024 : Shape := ⟨3, ![2, 3, 1024]⟩
abbrev S3x1024 : Shape := ⟨2, ![3, 1024]⟩
abbrev S1024 : Shape := ⟨1, ![1024]⟩
abbrev S1024x8 : Shape := ⟨2, ![1024, 8]⟩
abbrev S8 : Shape := ⟨1, ![8]⟩
abbrev S8x1024x1792 : Shape := ⟨3, ![8, 1024, 1792]⟩
abbrev S8x1792x1024 : Shape := ⟨3, ![8, 1792, 1024]⟩
abbrev S_ : Shape := ⟨0, ![]⟩
abbrev S2x2x1024 : Shape := ⟨3, ![2, 2, 1024]⟩
abbrev S2x1024 : Shape := ⟨2, ![2, 1024]⟩

class Facts : Prop where
  bcast_S_S2x8448x1024 : S_.BroadcastsInDim S2x8448x1024 (![] : Fin 0 → Fin S2x8448x1024.rank)
  reducesTo_S2x8448x1024_S_d0_1_2 : S2x8448x1024.ReducesTo [0, 1, 2] S_
  h_S_ : 0 < S_.numel
  slices_S2x3x1024_S2x2x1024_0_0_0 : S2x3x1024.Slices ![0, 0, 0] S2x2x1024
  bcast_S_S2x2x1024 : S_.BroadcastsInDim S2x2x1024 (![] : Fin 0 → Fin S2x2x1024.rank)
  reducesTo_S2x2x1024_S_d0_1_2 : S2x2x1024.ReducesTo [0, 1, 2] S_
  slices_S3x1024_S2x1024_0_0 : S3x1024.Slices ![0, 0] S2x1024
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S1024x8 .f32) (main_arg5 : FVec F S8 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S1024x8 .f32 := Host.absf main_arg4
  let main_cst_6 : FVec F S_ .f32 := constant S_ .f32 0x7F800000#32
  let main_v22 : FVec F S1024x8 .f32 := broadcastInDim S1024x8 ![] bcast_S_S1024x8 main_cst_6
  let main_v23 : IVec S1024x8 1 := cmpf .olt main_v21 main_v22
  let main_c_7 : IVec S_ 1 := constantI S_ 1 1#1
  let main_v24 : IVec S_ 1 := (fun x v => Host.reduce IntOp.andi x v reducesTo_S1024x8_S_d0_1 h_S_) main_v23 main_c_7
  let main_v25 : IVec S_ 1 := andi main_v20 main_v24
  let main_v26 : FVec F S8 .f32 := Host.absf main_arg5
  let main_cst_8 : FVec F S_ .f32 := constant S_ .f32 0x7F800000#32
  let main_v27 : FVec F S8 .f32 := broadcastInDim S8 ![] bcast_S_S8 main_cst_8
  let main_v28 : IVec S8 1 := cmpf .olt main_v26 main_v27
  let main_c_9 : IVec S_ 1 := constantI S_ 1 1#1
  let main_v29 : IVec S_ 1 := (fun x v => Host.reduce IntOp.andi x v reducesTo_S8_S_d0 h_S_) main_v28 main_c_9
  let main_v30 : IVec S_ 1 := andi main_v25 main_v29
  main_v30

def fn {F : FTy → Type} [FloatOps F] (main_arg0 : FVec F S2x8448x1024 .f32) (main_arg1 : FVec F S2x3x1024 .f32) (main_arg2 : FVec F S3x1024 .f32) (main_arg3 : FVec F S1024 .f32) (main_arg4 : FVec F S1024x8 .f32) (main_arg5 : FVec F S8 .f32) (main_arg6 : FVec F S8x1024x1792 .f32) (main_arg7 : FVec F S8x1024x1792 .f32) (main_arg8 : FVec F S8x1792x1024 .f32) : IVec S_ 1 :=
  let main_v0 : FVec F S2x8448x1024 .f32 := Host.absf main_arg0
  let main_cst : FVec F S_ .f32 := constant S_ .f32 0x7F800000#32
  let main_v1 : FVec F S2x8448x1024 .f32 := broadcastInDim S2x8448x1024 ![] bcast_S_S2x8448x1024 main_cst
  let main_v2 : IVec S2x8448x1024 1 := cmpf .olt main_v0 main_v1
  let main_c : IVec S_ 1 := constantI S_ 1 1#1
  let main_v3 : IVec S_ 1 := (fun x v => Host.reduce IntOp.andi x v reducesTo_S2x8448x1024_S_d0_1_2 h_S_) main_v2 main_c
  let main_v4 : FVec F S2x2x1024 .f32 := (extractStridedSlice S2x2x1024 ![0, 0, 0] · slices_S2x3x1024_S2x2x1024_0_0_0) main_arg1
  let main_v5 : FVec F S2x2x1024 .f32 := Host.absf main_v4
  let main_cst_0 : FVec F S_ .f32 := constant S_ .f32 0x7F800000#32
  let main_v6 : FVec F S2x2x1024 .f32 := broadcastInDim S2x2x1024 ![] bcast_S_S2x2x1024 main_cst_0
  let main_v7 : IVec S2x2x1024 1 := cmpf .olt main_v5 main_v6
  let main_c_1 : IVec S_ 1 := constantI S_ 1 1#1
  let main_v8 : IVec S_ 1 := (fun x v => Host.reduce IntOp.andi x v reducesTo_S2x2x1024_S_d0_1_2 h_S_) main_v7 main_c_1
  let main_v9 : IVec S_ 1 := andi main_v3 main_v8
  let main_v10 : FVec F S2x1024 .f32 := (extractStridedSlice S2x1024 ![0, 0] · slices_S3x1024_S2x1024_0_0) main_arg2
  let main_v11 : FVec F S2x1024 .f32 := Host.absf main_v10
  let main_cst_2 : FVec F S_ .f32 := constant S_ .f32 0x7F800000#32
  let main_v12 : FVec F S2x1024 .f32 := broadcastInDim S2x1024 ![] bcast_S_S2x1024 main_cst_2
  let main_v13 : IVec S2x1024 1 := cmpf .olt main_v11 main_v12
  let main_c_3 : IVec S_ 1 := constantI S_ 1 1#1
  let main_v14 : IVec S_ 1 := (fun x v => Host.reduce IntOp.andi x v reducesTo_S2x1024_S_d0_1 h_S_) main_v13 main_c_3
  let main_v15 : IVec S_ 1 := andi main_v9 main_v14
  let main_v16 : FVec F S1024 .f32 := Host.absf main_arg3
  let main_cst_4 : FVec F S_ .f32 := constant S_ .f32 0x7F800000#32
  fn_part1 (F := F) main_arg4 main_arg5 main_v15 main_v16 main_cst_4
-- ==== Kernel.lean ====
abbrev S2x8448x1024 : Shape := ⟨3, ![2, 8448, 1024]⟩
abbrev S2x3x1024 : Shape := ⟨3, ![2, 3, 1024]⟩
abbrev S3x1024 : Shape := ⟨2, ![3, 1024]⟩
abbrev S1024 : Shape := ⟨1, ![1024]⟩
abbrev S1024x8 : Shape := ⟨2, ![1024, 8]⟩
abbrev S8 : Shape := ⟨1, ![8]⟩
abbrev S8x1024x1792 : Shape := ⟨3, ![8, 1024, 1792]⟩
abbrev S8x1792x1024 : Shape := ⟨3, ![8, 1792, 1024]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x768x1024 : Shape := ⟨3, ![1, 768, 1024]⟩
abbrev S1x3x1024 : Shape := ⟨3, ![1, 3, 1024]⟩
abbrev S1x1024x896 : Shape := ⟨3, ![1, 1024, 896]⟩
abbrev S1x896x1024 : Shape := ⟨3, ![1, 896, 1024]⟩
abbrev S768x1024 : Shape := ⟨2, ![768, 1024]⟩
abbrev S768x128 : Shape := ⟨2, ![768, 128]⟩
abbrev S1x1x1024 : Shape := ⟨3, ![1, 1, 1024]⟩
abbrev S768 : Shape := ⟨1, ![768]⟩
abbrev S768x1 : Shape := ⟨2, ![768, 1]⟩
abbrev S1024x896 : Shape := ⟨2, ![1024, 896]⟩
abbrev S768x896 : Shape := ⟨2, ![768, 896]⟩
abbrev S896x1024 : Shape := ⟨2, ![896, 1024]⟩

abbrev nBuf : Space → Nat
  | .hbm => 27
  | .vmem => 20
  | .smem => 0
  | _ => 0

abbrev bufTy : (tb : Table) → Fin (tcTables nBuf tb) → BufTy
  | .hbm, ⟨0, _⟩ => ⟨S2x8448x1024, .f32⟩
  | .hbm, ⟨1, _⟩ => ⟨S2x3x1024, .f32⟩
  | .hbm, ⟨2, _⟩ => ⟨S3x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S8x1024x1792, .f32⟩
  | .hbm, ⟨7, _⟩ => ⟨S8x1024x1792, .f32⟩
  | .hbm, ⟨8, _⟩ => ⟨S8x1792x1024, .f32⟩
  | .hbm, ⟨9, _⟩ => ⟨S1x1024, .f32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S8x1024x1792, .bf16⟩
  | .hbm, ⟨24, _⟩ => ⟨S8x1024x1792, .bf16⟩
  | .hbm, ⟨25, _⟩ => ⟨S8x1792x1024, .bf16⟩
  | .hbm, ⟨26, _⟩ => ⟨S2x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x3x1024, .f32⟩
  | .local _ .vmem, ⟨3, _⟩ => ⟨S1x3x1024, .f32⟩
  | .local _ .vmem, ⟨4, _⟩ => ⟨S3x1024, .f32⟩
  | .local _ .vmem, ⟨5, _⟩ => ⟨S1x1024, .f32⟩
  | .local _ .vmem, ⟨6, _⟩ => ⟨S1024x128, .f32⟩
  | .local _ .vmem, ⟨7, _⟩ => ⟨S1x128, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x896x1024, .bf16⟩
  | .local _ .vmem, ⟨13, _⟩ => ⟨S1x896x1024, .bf16⟩
  | .local _ .vmem, ⟨14, _⟩ => ⟨S1x768x1024, .f32⟩
  | .local _ .vmem, ⟨15, _⟩ => ⟨S1x768x1024, .f32⟩
  | .local _ .vmem, ⟨16, _⟩ => ⟨S768x1024, .bf16⟩
  | .local _ .vmem, ⟨17, _⟩ => ⟨S768x128, .f32⟩
  | .local _ .vmem, ⟨18, _⟩ => ⟨S768x1024, .f32⟩
  | .local _ .vmem, ⟨19, _⟩ => ⟨S768x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![2, 11, 16], ![false, false, false]⟩

def k0_cond4 (i : grid0.Coords) : BitVec 1 :=
  let arg2 : BitVec 32 := BitVec.ofNat 32 (i 2).val
  let c15_i32 : BitVec 32 := 15#32
  let v56 : BitVec 1 := Scalar.cmpi .eq arg2 c15_i32
  let v57 : BitVec 32 := Scalar.extui v56
  let c0_i32_32 : BitVec 32 := 0#32
  let v58 : BitVec 1 := Scalar.cmpi .ne v57 c0_i32_32
  v58

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x896x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2x8448x1024 : Shape := ⟨3, ![2, 8448, 1024]⟩
abbrev S2x3x1024 : Shape := ⟨3, ![2, 3, 1024]⟩
abbrev S3x1024 : Shape := ⟨2, ![3, 1024]⟩
abbrev S1024 : Shape := ⟨1, ![1024]⟩
abbrev S1024x8 : Shape := ⟨2, ![1024, 8]⟩
abbrev S8 : Shape := ⟨1, ![8]⟩
abbrev S8x1024x1792 : Shape := ⟨3, ![8, 1024, 1792]⟩
abbrev S8x1792x1024 : Shape := ⟨3, ![8, 1792, 1024]⟩
abbrev S1x1x3x1024 : Shape := ⟨4, ![1, 1, 3, 1024]⟩
abbrev S2x256x3x1024 : Shape := ⟨4, ![2, 256, 3, 1024]⟩
abbrev S2x1x3x1024 : Shape := ⟨4, ![2, 1, 3, 1024]⟩
abbrev S2x8192x3x1024 : Shape := ⟨4, ![2, 8192, 3, 1024]⟩
abbrev S2x8448x3x1024 : Shape := ⟨4, ![2, 8448, 3, 1024]⟩
abbrev S2x8448x1x1024 : Shape := ⟨4, ![2, 8448, 1, 1024]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x8448x8 : Shape := ⟨3, ![2, 8448, 8]⟩
abbrev S1x1x8 : Shape := ⟨3, ![1, 1, 8]⟩
abbrev S2x8448x2 : Shape := ⟨3, ![2, 8448, 2]⟩
abbrev S2x8448x2x1 : Shape := ⟨4, ![2, 8448, 2, 1]⟩
abbrev S1x1x1x8 : Shape := ⟨4, ![1, 1, 1, 8]⟩
abbrev S2x8448x2x8 : Shape := ⟨4, ![2, 8448, 2, 8]⟩
abbrev S1x1024x1792 : Shape := ⟨3, ![1, 1024, 1792]⟩
abbrev S1024x1792 : Shape := ⟨2, ![1024, 1792]⟩
abbrev S1x1792x1024 : Shape := ⟨3, ![1, 1792, 1024]⟩
abbrev S1792x1024 : Shape := ⟨2, ![1792, 1024]⟩
abbrev S2x8448x1792 : Shape := ⟨3, ![2, 8448, 1792]⟩

abbrev nBuf : Space → Nat
  | .hbm => 257
  | .vmem => 0
  | .smem => 0
  | _ => 0

abbrev hbmTy0_0 (i : Nat) : BufTy := match i % 128 with
  | 0 => ⟨S2x8448x1024, .f32⟩
  | 1 => ⟨S2x3x1024, .f32⟩
  | 2 => ⟨S3x1024, .f32⟩
  | 3 => ⟨S1024, .f32⟩
  | 4 => ⟨S1024x8, .f32⟩
  | 5 => ⟨S8, .f32⟩
  | 6 => ⟨S8x1024x1792, .f32⟩
  | 7 => ⟨S8x1024x1792, .f32⟩
  | 8 => ⟨S8x1792x1024, .f32⟩
  | 9 => ⟨S1x1x3x1024, .f32⟩
  | 10 => ⟨S2x256x3x1024, .f32⟩
  | 11 => ⟨S2x1x3x1024, .f32⟩
  | 12 => ⟨S2x8192x3x1024, .f32⟩
  | 13 => ⟨S2x8448x3x1024, .f32⟩
  | 14 => ⟨S2x8448x1x1024, .f32⟩
  | 15 => ⟨S2x8448x1024, .f32⟩
  | 16 => ⟨S2x8448x1x1024, .f32⟩
  | 17 => ⟨S2x8448x1024, .f32⟩
  | 18 => ⟨S2x8448x1x1024, .f32⟩
  | 19 => ⟨S2x8448x1024, .f32⟩
  | 20 => ⟨S2x8448x1024, .f32⟩
  | 21 => ⟨S_, .f32⟩
  | 22 => ⟨S2x8448, .f32⟩
  | 23 => ⟨S2x8448x1, .f32⟩
  | 24 => ⟨S_, .f32⟩
  | 25 => ⟨S2x8448x1, .f32⟩
  | 26 => ⟨S2x8448x1, .f32⟩
  | 27 => ⟨S_, .f32⟩
  | 28 => ⟨S2x8448x1, .f32⟩
  | 29 => ⟨S2x8448x1, .f32⟩
  | 30 => ⟨S2x8448x1, .f32⟩
  | 31 => ⟨S2x8448x1024, .f32⟩
  | 32 => ⟨S2x8448x1024, .f32⟩
  | 33 => ⟨S1x1x1024, .f32⟩
  | 34 => ⟨S2x8448x1024, .f32⟩
  | 35 => ⟨S2x8448x1024, .f32⟩
  | 36 => ⟨S_, .f32⟩
  | 37 => ⟨S2x8448x1024, .f32⟩
  | 38 => ⟨S2x8448x1024, .f32⟩
  | 39 => ⟨S2x8448x1024, .f32⟩
  | 40 => ⟨S2x8448x1024, .f32⟩
  | 41 => ⟨S2x8448x8, .f32⟩
  | 42 => ⟨S1x1x8, .f32⟩
  | 43 => ⟨S2x8448x8, .f32⟩
  | 44 => ⟨S2x8448x8, .f32⟩
  | 45 => ⟨S2x8448x2, .f32⟩
  | 46 => ⟨S2x8448x2, .i32⟩
  | 47 => ⟨S_, .f32⟩
  | 48 => ⟨S2x8448, .f32⟩
  | 49 => ⟨S_, .f32⟩
  | 50 => ⟨S2x8448, .f32⟩
  | 51 => ⟨S2x8448, .f32⟩
  | 52 => ⟨S2x8448x1, .f32⟩
  | 53 => ⟨S2x8448x2, .f32⟩
  | 54 => ⟨S2x8448x2, .f32⟩
  | 55 => ⟨S2x8448x2, .f32⟩
  | 56 => ⟨S_, .f32⟩
  | 57 => ⟨S2x8448, .f32⟩
  | 58 => ⟨S2x8448x1, .f32⟩
  | 59 => ⟨S2x8448x2, .f32⟩
  | 60 => ⟨S2x8448x2, .f32⟩
  | 61 => ⟨S2x8448x2x1, .i32⟩
  | 62 => ⟨S1x1x1x8, .i32⟩
  | 63 => ⟨S2x8448x2x8, .i32⟩
  | 64 => ⟨S2x8448x2x8, .i32⟩
  | 65 => ⟨S2x8448x2x8, .i1⟩
  | 66 => ⟨S2x8448x2x8, .f32⟩
  | 67 => ⟨S2x8448x2x1, .f32⟩
  | 68 => ⟨S2x8448x2x8, .f32⟩
  | 69 => ⟨S2x8448x2x8, .f32⟩
  | 70 => ⟨S_, .f32⟩
  | 71 => ⟨S2x8448x8, .f32⟩
  | 72 => ⟨S2x8448x1, .f32⟩
  | 73 => ⟨S1x1024x1792, .f32⟩
  | 74 => ⟨S1024x1792, .f32⟩
  | 75 => ⟨S1x1024x1792, .f32⟩
  | 76 => ⟨S1024x1792, .f32⟩
  | 77 => ⟨S1x1792x1024, .f32⟩
  | 78 => ⟨S1792x1024, .f32⟩
  | 79 => ⟨S2x8448x1792, .f32⟩
  | 80 => ⟨S2x8448x1792, .f32⟩
  | 81 => ⟨S2x8448x1792, .f32⟩
  | 82 => ⟨S_, .f32⟩
  | 83 => ⟨S2x8448x1792, .f32⟩
  | 84 => ⟨S2x8448x1792, .f32⟩
  | 85 => ⟨S_, .f32⟩
  | 86 => ⟨S2x8448x1792, .f32⟩
  | 87 => ⟨S2x8448x1792, .f32⟩
  | 88 => ⟨S2x8448x1792, .f32⟩
  | 89 => ⟨S2x8448x1792, .f32⟩
  | 90 => ⟨S2x8448x1792, .f32⟩
  | 91 => ⟨S2x8448x1024, .f32⟩
  | 92 => ⟨S2x8448x1024, .f32⟩
  | 93 => ⟨S2x8448x1024, .f32⟩
  | 94 => ⟨S2x8448x1, .f32⟩
  | 95 => ⟨S1x1024x1792, .f32⟩
  | 96 => ⟨S1024x1792, .f32⟩
  | 97 => ⟨S1x1024x1792, .f32⟩
  | 98 => ⟨S1024x1792, .f32⟩
  | 99 => ⟨S1x1792x1024, .f32⟩
  | 100 => ⟨S1792x1024, .f32⟩
  | 101 => ⟨S2x8448x1792, .f32⟩
  | 102 => ⟨S2x8448x1792, .f32⟩
  | 103 => ⟨S2x8448x1792, .f32⟩
  | 104 => ⟨S_, .f32⟩
  | 105 => ⟨S2x8448x1792, .f32⟩
  | 106 => ⟨S2x8448x1792, .f32⟩
  | 107 => ⟨S_, .f32⟩
  | 108 => ⟨S2x8448x1792, .f32⟩
  | 109 => ⟨S2x8448x1792, .f32⟩
  | 110 => ⟨S2x8448x1792, .f32⟩
  | 111 => ⟨S2x8448x1792, .f32⟩
  | 112 => ⟨S2x8448x1792, .f32⟩
  | 113 => ⟨S2x8448x1024, .f32⟩
  | 114 => ⟨S2x8448x1024, .f32⟩
  | 115 => ⟨S2x8448x1024, .f32⟩
  | 116 => ⟨S2x8448x1024, .f32⟩
  | 117 => ⟨S2x8448x1, .f32⟩
  | 118 => ⟨S1x1024x1792, .f32⟩
  | 119 => ⟨S1024x1792, .f32⟩
  | 120 => ⟨S1x1024x1792, .f32⟩
  | 121 => ⟨S1024x1792, .f32⟩
  | 122 => ⟨S1x1792x1024, .f32⟩
  | 123 => ⟨S1792x1024, .f32⟩
  | 124 => ⟨S2x8448x1792, .f32⟩
  | 125 => ⟨S2x8448x1792, .f32⟩
  | 126 => ⟨S2x8448x1792, .f32⟩
  | 127 => ⟨S_, .f32⟩
  | _ => ⟨S2x8448x1024, .f32⟩

abbrev hbmTy0_1 (i : Nat) : BufTy := match i % 128 with
  | 0 => ⟨S2x8448x1792, .f32⟩
  | 1 => ⟨S2x8448x1792, .f32⟩
  | 2 => ⟨S_, .f32⟩
  | 3 => ⟨S2x8448x1792, .f32⟩
  | 4 => ⟨S2x8448x1792, .f32⟩
  | 5 => ⟨S2x8448x1792, .f32⟩
  | 6 => ⟨S2x8448x1792, .f32⟩
  | 7 => ⟨S2x8448x1792, .f32⟩
  | 8 => ⟨S2x8448x1024, .f32⟩
  | 9 => ⟨S2x8448x1024, .f32⟩
  | 10 => ⟨S2x8448x1024, .f32⟩
  | 11 => ⟨S2x8448x1024, .f32⟩
  | 12 => ⟨S2x8448x1, .f32⟩
  | 13 => ⟨S1x1024x1792, .f32⟩
  | 14 => ⟨S1024x1792, .f32⟩
  | 15 => ⟨S1x1024x1792, .f32⟩
  | 16 => ⟨S1024x1792, .f32⟩
  | 17 => ⟨S1x1792x1024, .f32⟩
  | 18 => ⟨S1792x1024, .f32⟩
  | 19 => ⟨S2x8448x1792, .f32⟩
  | 20 => ⟨S2x8448x1792, .f32⟩
  | 21 => ⟨S2x8448x1792, .f32⟩
  | 22 => ⟨S_, .f32⟩
  | 23 => ⟨S2x8448x1792, .f32⟩
  | 24 => ⟨S2x8448x1792, .f32⟩
  | 25 => ⟨S_, .f32⟩
  | 26 => ⟨S2x8448x1792, .f32⟩
  | 27 => ⟨S2x8448x1792, .f32⟩
  | 28 => ⟨S2x8448x1792, .f32⟩
  | 29 => ⟨S2x8448x1792, .f32⟩
  | 30 => ⟨S2x8448x1792, .f32⟩
  | 31 => ⟨S2x8448x1024, .f32⟩
  | 32 => ⟨S2x8448x1024, .f32⟩
  | 33 => ⟨S2x8448x1024, .f32⟩
  | 34 => ⟨S2x8448x1024, .f32⟩
  | 35 => ⟨S2x8448x1, .f32⟩
  | 36 => ⟨S1x1024x1792, .f32⟩
  | 37 => ⟨S1024x1792, .f32⟩
  | 38 => ⟨S1x1024x1792, .f32⟩
  | 39 => ⟨S1024x1792, .f32⟩
  | 40 => ⟨S1x1792x1024, .f32⟩
  | 41 => ⟨S1792x1024, .f32⟩
  | 42 => ⟨S2x8448x1792, .f32⟩
  | 43 => ⟨S2x8448x1792, .f32⟩
  | 44 => ⟨S2x8448x1792, .f32⟩
  | 45 => ⟨S_, .f32⟩
  | 46 => ⟨S2x8448x1792, .f32⟩
  | 47 => ⟨S2x8448x1792, .f32⟩
  | 48 => ⟨S_, .f32⟩
  | 49 => ⟨S2x8448x1792, .f32⟩
  | 50 => ⟨S2x8448x1792, .f32⟩
  | 51 => ⟨S2x8448x1792, .f32⟩
  | 52 => ⟨S2x8448x1792, .f32⟩
  | 53 => ⟨S2x8448x1792, .f32⟩
  | 54 => ⟨S2x8448x1024, .f32⟩
  | 55 => ⟨S2x8448x1024, .f32⟩
  | 56 => ⟨S2x8448x1024, .f32⟩
  | 57 => ⟨S2x8448x1024, .f32⟩
  | 58 => ⟨S2x8448x1, .f32⟩
  | 59 => ⟨S1x1024x1792, .f32⟩
  | 60 => ⟨S1024x1792, .f32⟩
  | 61 => ⟨S1x1024x1792, .f32⟩
  | 62 => ⟨S1024x1792, .f32⟩
  | 63 => ⟨S1x1792x1024, .f32⟩
  | 64 => ⟨S1792x1024, .f32⟩
  | 65 => ⟨S2x8448x1792, .f32⟩
  | 66 => ⟨S2x8448x1792, .f32⟩
  | 67 => ⟨S2x8448x1792, .f32⟩
  | 68 => ⟨S_, .f32⟩
  | 69 => ⟨S2x8448x1792, .f32⟩
  | 70 => ⟨S2x8448x1792, .f32⟩
  | 71 => ⟨S_, .f32⟩
  | 72 => ⟨S2x8448x1792, .f32⟩
  | 73 => ⟨S2x8448x1792, .f32⟩
  | 74 => ⟨S2x8448x1792, .f32⟩
  | 75 => ⟨S2x8448x1792, .f32⟩
  | 76 => ⟨S2x8448x1792, .f32⟩
  | 77 => ⟨S2x8448x1024, .f32⟩
  | 78 => ⟨S2x8448x1024, .f32⟩
  | 79 => ⟨S2x8448x1024, .f32⟩
  | 80 => ⟨S2x8448x1024, .f32⟩
  | 81 => ⟨S2x8448x1, .f32⟩
  | 82 => ⟨S1x1024x1792, .f32⟩
  | 83 => ⟨S1024x1792, .f32⟩
  | 84 => ⟨S1x1024x1792, .f32⟩
  | 85 => ⟨S1024x1792, .f32⟩
  | 86 => ⟨S1x1792x1024, .f32⟩
  | 87 => ⟨S1792x1024, .f32⟩
  | 88 => ⟨S2x8448x1792, .f32⟩
  | 89 => ⟨S2x8448x1792, .f32⟩
  | 90 => ⟨S2x8448x1792, .f32⟩
  | 91 => ⟨S_, .f32⟩
  | 92 => ⟨S2x8448x1792, .f32⟩
  | 93 => ⟨S2x8448x1792, .f32⟩
  | 94 => ⟨S_, .f32⟩
  | 95 => ⟨S2x8448x1792, .f32⟩
  | 96 => ⟨S2x8448x1792, .f32⟩
  | 97 => ⟨S2x8448x1792, .f32⟩
  | 98 => ⟨S2x8448x1792, .f32⟩
  | 99 => ⟨S2x8448x1792, .f32⟩
  | 100 => ⟨S2x8448x1024, .f32⟩
  | 101 => ⟨S2x8448x1024, .f32⟩
  | 102 => ⟨S2x8448x1024, .f32⟩
  | 103 => ⟨S2x8448x1024, .f32⟩
  | 104 => ⟨S2x8448x1, .f32⟩
  | 105 => ⟨S1x1024x1792, .f32⟩
  | 106 => ⟨S1024x1792, .f32⟩
  | 107 => ⟨S1x1024x1792, .f32⟩
  | 108 => ⟨S1024x1792, .f32⟩
  | 109 => ⟨S1x1792x1024, .f32⟩
  | 110 => ⟨S1792x1024, .f32⟩
  | 111 => ⟨S2x8448x1792, .f32⟩
  | 112 => ⟨S2x8448x1792, .f32⟩
  | 113 => ⟨S2x8448x1792, .f32⟩
  | 114 => ⟨S_, .f32⟩
  | 115 => ⟨S2x8448x1792, .f32⟩
  | 116 => ⟨S2x8448x1792, .f32⟩
  | 117 => ⟨S_, .f32⟩
  | 118 => ⟨S2x8448x1792, .f32⟩
  | 119 => ⟨S2x8448x1792, .f32⟩
  | 120 => ⟨S2x8448x1792, .f32⟩
  | 121 => ⟨S2x8448x1792, .f32⟩
  | 122 => ⟨S2x8448x1792, .f32⟩
  | 123 => ⟨S2x8448x1024, .f32⟩
  | 124 => ⟨S2x8448x1024, .f32⟩
  | 125 => ⟨S2x8448x1024, .f32⟩
  | 126 => ⟨S2x8448x1024, .f32⟩
  | 127 => ⟨S2x8448x1024, .f32⟩
  | _ => ⟨S2x8448x1024, .f32⟩

abbrev hbmTy0_2 (i : Nat) : BufTy := match i % 128 with
  | 0 => ⟨S2x8448x1024, .f32⟩
  | _ => ⟨S2x8448x1024, .f32⟩

abbrev hbmTy (i : Nat) : BufTy := match i / 128 with
  | 0 => hbmTy0_0 i
  | 1 => hbmTy0_1 i
  | 2 => hbmTy0_2 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_values : Ref sig .tc := ⟨.hbm, 45, rfl⟩
abbrev main_indices : Ref sig .tc := ⟨.hbm, 46, rfl⟩
abbrev main_cst_3 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_call2_v5 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_call3_v0 : Ref sig .tc := ⟨.hbm, 125, rfl⟩
abbrev main_call3_v1 : Ref sig .tc := ⟨.hbm, 126, rfl⟩
abbrev main_call3_cst : Ref sig .tc := ⟨.hbm, 127, rfl⟩
abbrev main_call3_v2 : Ref sig .tc := ⟨.hbm, 128, rfl⟩
abbrev main_call3_v3 : Ref sig .tc := ⟨.hbm, 129, rfl⟩
abbrev main_call3_cst_0 : Ref sig .tc := ⟨.hbm, 130, rfl⟩
abbrev main_call3_v4 : Ref sig .tc := ⟨.hbm, 131, rfl⟩
abbrev main_call3_v5 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_call4_v0 : Ref sig .tc := ⟨.hbm, 148, rfl⟩
abbrev main_call4_v1 : Ref sig .tc := ⟨.hbm, 149, rfl⟩
abbrev main_call4_cst : Ref sig .tc := ⟨.hbm, 150, rfl⟩
abbrev main_call4_v2 : Ref sig .tc := ⟨.hbm, 151, rfl⟩
abbrev main_call4_v3 : Ref sig .tc := ⟨.hbm, 152, rfl⟩
abbrev main_call4_cst_0 : Ref sig .tc := ⟨.hbm, 153, rfl⟩
abbrev main_call4_v4 : Ref sig .tc := ⟨.hbm, 154, rfl⟩
abbrev main_call4_v5 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call5_v0 : Ref sig .tc := ⟨.hbm, 171, rfl⟩
abbrev main_call5_v1 : Ref sig .tc := ⟨.hbm, 172, rfl⟩
abbrev main_call5_cst : Ref sig .tc := ⟨.hbm, 173, rfl⟩
abbrev main_call5_v2 : Ref sig .tc := ⟨.hbm, 174, rfl⟩
abbrev main_call5_v3 : Ref sig .tc := ⟨.hbm, 175, rfl⟩
abbrev main_call5_cst_0 : Ref sig .tc := ⟨.hbm, 176, rfl⟩
abbrev main_call5_v4 : Ref sig .tc := ⟨.hbm, 177, rfl⟩
abbrev main_call5_v5 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_call6_v0 : Ref sig .tc := ⟨.hbm, 194, rfl⟩
abbrev main_call6_v1 : Ref sig .tc := ⟨.hbm, 195, rfl⟩
abbrev main_call6_cst : Ref sig .tc := ⟨.hbm, 196, rfl⟩
abbrev main_call6_v2 : Ref sig .tc := ⟨.hbm, 197, rfl⟩
abbrev main_call6_v3 : Ref sig .tc := ⟨.hbm, 198, rfl⟩
abbrev main_call6_cst_0 : Ref sig .tc := ⟨.hbm, 199, rfl⟩
abbrev main_call6_v4 : Ref sig .tc := ⟨.hbm, 200, rfl⟩
abbrev main_call6_v5 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_call7_v0 : Ref sig .tc := ⟨.hbm, 217, rfl⟩
abbrev main_call7_v1 : Ref sig .tc := ⟨.hbm, 218, rfl⟩
abbrev main_call7_cst : Ref sig .tc := ⟨.hbm, 219, rfl⟩
abbrev main_call7_v2 : Ref sig .tc := ⟨.hbm, 220, rfl⟩
abbrev main_call7_v3 : Ref sig .tc := ⟨.hbm, 221, rfl⟩
abbrev main_call7_cst_0 : Ref sig .tc := ⟨.hbm, 222, rfl⟩
abbrev main_call7_v4 : Ref sig .tc := ⟨.hbm, 223, rfl⟩
abbrev main_call7_v5 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_call8_v0 : Ref sig .tc := ⟨.hbm, 240, rfl⟩
abbrev main_call8_v1 : Ref sig .tc := ⟨.hbm, 241, rfl⟩
abbrev main_call8_cst : Ref sig .tc := ⟨.hbm, 242, rfl⟩
abbrev main_call8_v2 : Ref sig .tc := ⟨.hbm, 243, rfl⟩
abbrev main_call8_v3 : Ref sig .tc := ⟨.hbm, 244, rfl⟩
abbrev main_call8_cst_0 : Ref sig .tc := ⟨.hbm, 245, rfl⟩
abbrev main_call8_v4 : Ref sig .tc := ⟨.hbm, 246, rfl⟩
abbrev main_call8_v5 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩

abbrev nD : Nat := 1
abbrev τ : Topo := Topo.v7x

variable {F : FTy → Type} [FloatOps F]
-- ==== Kernel2.lean ====
abbrev S2x8448x1024 : Shape := ⟨3, ![2, 8448, 1024]⟩
abbrev S2x3x1024 : Shape := ⟨3, ![2, 3, 1024]⟩
abbrev S3x1024 : Shape := ⟨2, ![3, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x768x1024 : Shape := ⟨3, ![1, 768, 1024]⟩
abbrev S1x3x1024 : Shape := ⟨3, ![1, 3, 1024]⟩
abbrev S1024x1408 : Shape := ⟨2, ![1024, 1408]⟩
abbrev S1408x1024 : Shape := ⟨2, ![1408, 1024]⟩
abbrev S768x1024 : Shape := ⟨2, ![768, 1024]⟩
abbrev S1x1x1024 : Shape := ⟨3, ![1, 1, 1024]⟩
abbrev S768 : Shape := ⟨1, ![768]⟩
abbrev S768x1 : Shape := ⟨2, ![768, 1]⟩
abbrev S768x1408 : Shape := ⟨2, ![768, 1408]⟩

abbrev nBuf : Space → Nat
  | .hbm => 12
  | .vmem => 16
  | .smem => 0
  | _ => 0

abbrev bufTy : (tb : Table) → Fin (tcTables nBuf tb) → BufTy
  | .hbm, ⟨0, _⟩ => ⟨S2x8448x1024, .f32⟩
  | .hbm, ⟨1, _⟩ => ⟨S2x3x1024, .f32⟩
  | .hbm, ⟨2, _⟩ => ⟨S3x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S2x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x3x1024, .f32⟩
  | .local _ .vmem, ⟨3, _⟩ => ⟨S1x3x1024, .f32⟩
  | .local _ .vmem, ⟨4, _⟩ => ⟨S3x1024, .f32⟩
  | .local _ .vmem, ⟨5, _⟩ => ⟨S1x1024, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1408x1024, .bf16⟩
  | .local _ .vmem, ⟨11, _⟩ => ⟨S1408x1024, .bf16⟩
  | .local _ .vmem, ⟨12, _⟩ => ⟨S1x768x1024, .f32⟩
  | .local _ .vmem, ⟨13, _⟩ => ⟨S1x768x1024, .f32⟩
  | .local _ .vmem, ⟨14, _⟩ => ⟨S768x1024, .bf16⟩
  | .local _ .vmem, ⟨15, _⟩ => ⟨S768x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 11, 2], ![false, false, false]⟩

def k0_cond2 (i : grid0.Coords) : BitVec 1 :=
  let arg2 : BitVec 32 := BitVec.ofNat 32 (i 2).val
  let c1_i32 : BitVec 32 := 1#32
  let v22 : BitVec 1 := Scalar.cmpi .eq arg2 c1_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S2x8448x1024 : Shape := ⟨3, ![2, 8448, 1024]⟩
abbrev S2x3x1024 : Shape := ⟨3, ![2, 3, 1024]⟩
abbrev S3x1024 : Shape := ⟨2, ![3, 1024]⟩
abbrev S1024 : Shape := ⟨1, ![1024]⟩
abbrev S1024x2816 : Shape := ⟨2, ![1024, 2816]⟩
abbrev S2816x1024 : Shape := ⟨2, ![2816, 1024]⟩
abbrev S1x1x3x1024 : Shape := ⟨4, ![1, 1, 3, 1024]⟩
abbrev S2x256x3x1024 : Shape := ⟨4, ![2, 256, 3, 1024]⟩
abbrev S2x1x3x1024 : Shape := ⟨4, ![2, 1, 3, 1024]⟩
abbrev S2x8192x3x1024 : Shape := ⟨4, ![2, 8192, 3, 1024]⟩
abbrev S2x8448x3x1024 : Shape := ⟨4, ![2, 8448, 3, 1024]⟩
abbrev S2x8448x1x1024 : Shape := ⟨4, ![2, 8448, 1, 1024]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x8448x2816 : Shape := ⟨3, ![2, 8448, 2816]⟩

abbrev nBuf : Space → Nat
  | .hbm => 54
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x3x1024, .f32⟩
  | .hbm, ⟨2, _⟩ => ⟨S3x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x1x3x1024, .f32⟩
  | .hbm, ⟨8, _⟩ => ⟨S2x256x3x1024, .f32⟩
  | .hbm, ⟨9, _⟩ => ⟨S2x1x3x1024, .f32⟩
  | .hbm, ⟨10, _⟩ => ⟨S2x8192x3x1024, .f32⟩
  | .hbm, ⟨11, _⟩ => ⟨S2x8448x3x1024, .f32⟩
  | .hbm, ⟨12, _⟩ => ⟨S2x8448x1x1024, .f32⟩
  | .hbm, ⟨13, _⟩ => ⟨S2x8448x1024, .f32⟩
  | .hbm, ⟨14, _⟩ => ⟨S2x8448x1x1024, .f32⟩
  | .hbm, ⟨15, _⟩ => ⟨S2x8448x1024, .f32⟩
  | .hbm, ⟨16, _⟩ => ⟨S2x8448x1x1024, .f32⟩
  | .hbm, ⟨17, _⟩ => ⟨S2x8448x1024, .f32⟩
  | .hbm, ⟨18, _⟩ => ⟨S2x8448x1024, .f32⟩
  | .hbm, ⟨19, _⟩ => ⟨S_, .f32⟩
  | .hbm, ⟨20, _⟩ => ⟨S2x8448, .f32⟩
  | .hbm, ⟨21, _⟩ => ⟨S2x8448x1, .f32⟩
  | .hbm, ⟨22, _⟩ => ⟨S_, .f32⟩
  | .hbm, ⟨23, _⟩ => ⟨S2x8448x1, .f32⟩
  | .hbm, ⟨24, _⟩ => ⟨S2x8448x1, .f32⟩
  | .hbm, ⟨25, _⟩ => ⟨S_, .f32⟩
  | .hbm, ⟨26, _⟩ => ⟨S2x8448x1, .f32⟩
  | .hbm, ⟨27, _⟩ => ⟨S2x8448x1, .f32⟩
  | .hbm, ⟨28, _⟩ => ⟨S2x8448x1, .f32⟩
  | .hbm, ⟨29, _⟩ => ⟨S2x8448x1024, .f32⟩
  | .hbm, ⟨30, _⟩ => ⟨S2x8448x1024, .f32⟩
  | .hbm, ⟨31, _⟩ => ⟨S1x1x1024, .f32⟩
  | .hbm, ⟨32, _⟩ => ⟨S2x8448x1024, .f32⟩
  | .hbm, ⟨33, _⟩ => ⟨S2x8448x1024, .f32⟩
  | .hbm, ⟨34, _⟩ => ⟨S_, .f32⟩
  | .hbm, ⟨35, _⟩ => ⟨S2x8448x1024, .f32⟩
  | .hbm, ⟨36, _⟩ => ⟨S2x8448x1024, .f32⟩
  | .hbm, ⟨37, _⟩ => ⟨S2x8448x1024, .f32⟩
  | .hbm, ⟨38, _⟩ => ⟨S2x8448x1024, .f32⟩
  | .hbm, ⟨39, _⟩ => ⟨S2x8448x2816, .f32⟩
  | .hbm, ⟨40, _⟩ => ⟨S2x8448x2816, .f32⟩
  | .hbm, ⟨41, _⟩ => ⟨S2x8448x2816, .f32⟩
  | .hbm, ⟨42, _⟩ => ⟨S_, .f32⟩
  | .hbm, ⟨43, _⟩ => ⟨S2x8448x2816, .f32⟩
  | .hbm, ⟨44, _⟩ => ⟨S2x8448x2816, .f32⟩
  | .hbm, ⟨45, _⟩ => ⟨S_, .f32⟩
  | .hbm, ⟨46, _⟩ => ⟨S2x8448x2816, .f32⟩
  | .hbm, ⟨47, _⟩ => ⟨S2x8448x2816, .f32⟩
  | .hbm, ⟨48, _⟩ => ⟨S2x8448x2816, .f32⟩
  | .hbm, ⟨49, _⟩ => ⟨S2x8448x2816, .f32⟩
  | .hbm, ⟨50, _⟩ => ⟨S2x8448x2816, .f32⟩
  | .hbm, ⟨51, _⟩ => ⟨S2x8448x1024, .f32⟩
  | .hbm, ⟨52, _⟩ => ⟨S2x8448x1024, .f32⟩
  | .hbm, ⟨53, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel3.lean ====
abbrev S2x8448x2560 : Shape := ⟨3, ![2, 8448, 2560]⟩
abbrev S2x8448x1024 : Shape := ⟨3, ![2, 8448, 1024]⟩
abbrev S2x8448x256 : Shape := ⟨3, ![2, 8448, 256]⟩
abbrev S1x256x256 : Shape := ⟨3, ![1, 256, 256]⟩
abbrev S1x8448x256 : Shape := ⟨3, ![1, 8448, 256]⟩
abbrev S1x256x128 : Shape := ⟨3, ![1, 256, 128]⟩
abbrev S256x128 : Shape := ⟨2, ![256, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S256x256 : Shape := ⟨2, ![256, 256]⟩
abbrev S1x768x128 : Shape := ⟨3, ![1, 768, 128]⟩
abbrev S768x128 : Shape := ⟨2, ![768, 128]⟩
abbrev S512x768 : Shape := ⟨2, ![512, 768]⟩

abbrev nBuf : Space → Nat
  | .hbm => 3
  | .vmem => 8
  | .smem => 0
  | _ => 0

abbrev bufTy : (tb : Table) → Fin (tcTables nBuf tb) → BufTy
  | .hbm, ⟨0, _⟩ => ⟨S2x8448x2560, .bf16⟩
  | .hbm, ⟨1, _⟩ => ⟨S2x8448x1024, .bf16⟩
  | .hbm, ⟨2, _⟩ => ⟨S2x8448x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x256x256, .bf16⟩
  | .local _ .vmem, ⟨7, _⟩ => ⟨S1x256x256, .bf16⟩
  | _, _ => ⟨S2x8448x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c256_i32_0 : BitVec 32 := 256#32
  let v2 : BitVec 1 := Scalar.cmpi .sle v1 c256_i32_0
  let v3 : BitVec 32 := Scalar.extui v2
  let c0_i32 : BitVec 32 := 0#32
  let v4 : BitVec 1 := Scalar.cmpi .ne v3 c0_i32
  v4

def k0_mult1 : BitVec 32 :=
  let c0_i32_11 : BitVec 32 := 0#32
  let c256_i32_12 : BitVec 32 := 256#32
  let v25 : BitVec 32 := Scalar.muli c0_i32_11 c256_i32_12
  v25
def k0_off1 : Fin 3 → Nat :=
  let c0_13 : Index := 0#32
  let c0_i32_11 : BitVec 32 := 0#32
  let c256_i32_12 : BitVec 32 := 256#32
  let v25 : BitVec 32 := Scalar.muli c0_i32_11 c256_i32_12
  let v26 : BitVec 32 := v25
  let v27 : Index := Scalar.indexCast v26
  let c0_14 : Index := 0#32
  ![0, v27.toNat, 0]
def k0_mult2 : BitVec 32 :=
  let c0_i32_31 : BitVec 32 := 0#32
  let c256_i32_32 : BitVec 32 := 256#32
  let v74 : BitVec 32 := Scalar.muli c0_i32_31 c256_i32_32
  v74
def k0_off2 : Fin 3 → Nat :=
  let c0_33 : Index := 0#32
  let c0_i32_31 : BitVec 32 := 0#32
  let c256_i32_32 : BitVec 32 := 256#32
  let v74 : BitVec 32 := Scalar.muli c0_i32_31 c256_i32_32
  let v75 : BitVec 32 := v74
  let v76 : Index := Scalar.indexCast v75
  let c128_34 : Index := 128#32
  ![0, v76.toNat, 128]
def k0_cond2 (i : grid0.Coords) : BitVec 1 :=
  let arg1 : BitVec 32 := BitVec.ofNat 32 (i 1).val
  let c1_i32_1 : BitVec 32 := 1#32
  let v5 : BitVec 32 := Scalar.addi arg1 c1_i32_1
  let c256_i32_2 : BitVec 32 := 256#32
  let v6 : BitVec 32 := Scalar.muli v5 c256_i32_2
  let c256_i32_3 : BitVec 32 := 256#32
  let v7 : BitVec 1 := Scalar.cmpi .sgt v6 c256_i32_3
  let v8 : BitVec 32 := Scalar.extui v7
  let c0_i32_4 : BitVec 32 := 0#32
  let v9 : BitVec 1 := Scalar.cmpi .ne v8 c0_i32_4
  v9

@[reducible] def k0_t1_loop : Scf.Loop 32 :=
  let c0_i32_11 : BitVec 32 := 0#32
  let c11_i32 : BitVec 32 := 11#32
  let v25 : BitVec 32 := Scalar.addi c0_i32_11 c11_i32
  let c1_i32_12 : BitVec 32 := 1#32
  ⟨c0_i32_11, v25, c1_i32_12⟩
def k0_mult3 (k0_t1 : Fin k0_t1_loop.trips) : BitVec 32 :=
  let c0_i32_11 : BitVec 32 := 0#32
  let c1_i32_12 : BitVec 32 := 1#32
  let arg6 : BitVec 32 := Scf.iv c0_i32_11 c1_i32_12 k0_t1
  let c768_i32 : BitVec 32 := 768#32
  let v65 : BitVec 32 := Scalar.muli arg6 c768_i32
  v65
def k0_off3 (k0_t1 : Fin k0_t1_loop.trips) : Fin 3 → Nat :=
  let c0_31 : Index := 0#32
  let c0_i32_11 : BitVec 32 := 0#32
  let c1_i32_12 : BitVec 32 := 1#32
  let arg6 : BitVec 32 := Scf.iv c0_i32_11 c1_i32_12 k0_t1
  let c768_i32 : BitVec 32 := 768#32
  let v65 : BitVec 32 := Scalar.muli arg6 c768_i32
  let v66 : BitVec 32 := v65
  let v67 : Index := Scalar.indexCast v66
  let c0_32 : Index := 0#32
  ![0, v67.toNat, 0]
@[reducible] def k0_t2_loop : Scf.Loop 32 :=
  let c0_i32_23 : BitVec 32 := 0#32
  let c11_i32_24 : BitVec 32 := 11#32
  let v50 : BitVec 32 := Scalar.addi c0_i32_23 c11_i32_24
  let c1_i32_25 : BitVec 32 := 1#32
  ⟨c0_i32_23, v50, c1_i32_25⟩
def k0_mult4 (k0_t2 : Fin k0_t2_loop.trips) : BitVec 32 :=
  let c0_i32_23 : BitVec 32 := 0#32
  let c1_i32_25 : BitVec 32 := 1#32
  let arg6 : BitVec 32 := Scf.iv c0_i32_23 c1_i32_25 k0_t2
  let c768_i32 : BitVec 32 := 768#32
  let v65 : BitVec 32 := Scalar.muli arg6 c768_i32
  v65
def k0_off4 (k0_t2 : Fin k0_t2_loop.trips) : Fin 3 → Nat :=
  let c0_31 : Index := 0#32
  let c0_i32_23 : BitVec 32 := 0#32
  let c1_i32_25 : BitVec 32 := 1#32
  let arg6 : BitVec 32 := Scf.iv c0_i32_23 c1_i32_25 k0_t2
  let c768_i32 : BitVec 32 := 768#32
  let v65 : BitVec 32 := Scalar.muli arg6 c768_i32
  let v66 : BitVec 32 := v65
  let v67 : Index := Scalar.indexCast v66
  let c128_32 : Index := 128#32
  ![0, v67.toNat, 128]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S2x8448x2560 : Shape := ⟨3, ![2, 8448, 2560]⟩
abbrev S2x8448x1024 : Shape := ⟨3, ![2, 8448, 1024]⟩
abbrev S2x8448x256 : Shape := ⟨3, ![2, 8448, 256]⟩
abbrev S2x8448x4x64 : Shape := ⟨4, ![2, 8448, 4, 64]⟩
abbrev S2x256x4x64 : Shape := ⟨4, ![2, 256, 4, 64]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x256x256 : Shape := ⟨3, ![2, 256, 256]⟩
abbrev S2x8192x4x64 : Shape := ⟨4, ![2, 8192, 4, 64]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x256 : Shape := ⟨3, ![2, 8192, 256]⟩

abbrev nBuf : Space → Nat
  | .hbm => 53
  | .vmem => 0
  | .smem => 0
  | _ => 0

abbrev bufTy : (tb : Table) → Fin (tcTables nBuf tb) → BufTy
  | .hbm, ⟨0, _⟩ => ⟨S2x8448x2560, .bf16⟩
  | .hbm, ⟨1, _⟩ => ⟨S2x8448x1024, .bf16⟩
  | .hbm, ⟨2, _⟩ => ⟨S2x8448x256, .bf16⟩
  | .hbm, ⟨3, _⟩ => ⟨S2x8448x256, .f32⟩
  | .hbm, ⟨4, _⟩ => ⟨S2x8448x4x64, .f32⟩
  | .hbm, ⟨5, _⟩ => ⟨S2x8448x256, .bf16⟩
  | .hbm, ⟨6, _⟩ => ⟨S2x8448x256, .f32⟩
  | .hbm, ⟨7, _⟩ => ⟨S2x8448x4x64, .f32⟩
  | .hbm, ⟨8, _⟩ => ⟨S2x8448x256, .bf16⟩
  | .hbm, ⟨9, _⟩ => ⟨S2x8448x256, .f32⟩
  | .hbm, ⟨10, _⟩ => ⟨S2x8448x4x64, .f32⟩
  | .hbm, ⟨11, _⟩ => ⟨S2x256x4x64, .f32⟩
  | .hbm, ⟨12, _⟩ => ⟨S2x256x4x64, .f32⟩
  | .hbm, ⟨13, _⟩ => ⟨S2x256x4x64, .f32⟩
  | .hbm, ⟨14, _⟩ => ⟨S2x4x256x256, .f32⟩
  | .hbm, ⟨15, _⟩ => ⟨S_, .f32⟩
  | .hbm, ⟨16, _⟩ => ⟨S2x4x256, .f32⟩
  | .hbm, ⟨17, _⟩ => ⟨S_, .f32⟩
  | .hbm, ⟨18, _⟩ => ⟨S2x4x256, .f32⟩
  | .hbm, ⟨19, _⟩ => ⟨S2x4x256, .f32⟩
  | .hbm, ⟨20, _⟩ => ⟨S2x4x256x1, .f32⟩
  | .hbm, ⟨21, _⟩ => ⟨S2x4x256x256, .f32⟩
  | .hbm, ⟨22, _⟩ => ⟨S2x4x256x256, .f32⟩
  | .hbm, ⟨23, _⟩ => ⟨S2x4x256x256, .f32⟩
  | .hbm, ⟨24, _⟩ => ⟨S_, .f32⟩
  | .hbm, ⟨25, _⟩ => ⟨S2x4x256, .f32⟩
  | .hbm, ⟨26, _⟩ => ⟨S2x4x256x1, .f32⟩
  | .hbm, ⟨27, _⟩ => ⟨S2x4x256x256, .f32⟩
  | .hbm, ⟨28, _⟩ => ⟨S2x4x256x256, .f32⟩
  | .hbm, ⟨29, _⟩ => ⟨S2x4x64x256, .f32⟩
  | .hbm, ⟨30, _⟩ => ⟨S2x256x4x64, .f32⟩
  | .hbm, ⟨31, _⟩ => ⟨S2x256x256, .f32⟩
  | .hbm, ⟨32, _⟩ => ⟨S2x8192x4x64, .f32⟩
  | .hbm, ⟨33, _⟩ => ⟨S2x4x8192x8448, .f32⟩
  | .hbm, ⟨34, _⟩ => ⟨S_, .f32⟩
  | .hbm, ⟨35, _⟩ => ⟨S2x4x8192, .f32⟩
  | .hbm, ⟨36, _⟩ => ⟨S_, .f32⟩
  | .hbm, ⟨37, _⟩ => ⟨S2x4x8192, .f32⟩
  | .hbm, ⟨38, _⟩ => ⟨S2x4x8192, .f32⟩
  | .hbm, ⟨39, _⟩ => ⟨S2x4x8192x1, .f32⟩
  | .hbm, ⟨40, _⟩ => ⟨S2x4x8192x8448, .f32⟩
  | .hbm, ⟨41, _⟩ => ⟨S2x4x8192x8448, .f32⟩
  | .hbm, ⟨42, _⟩ => ⟨S2x4x8192x8448, .f32⟩
  | .hbm, ⟨43, _⟩ => ⟨S_, .f32⟩
  | .hbm, ⟨44, _⟩ => ⟨S2x4x8192, .f32⟩
  | .hbm, ⟨45, _⟩ => ⟨S2x4x8192x1, .f32⟩
  | .hbm, ⟨46, _⟩ => ⟨S2x4x8192x8448, .f32⟩
  | .hbm, ⟨47, _⟩ => ⟨S2x4x8192x8448, .f32⟩
  | .hbm, ⟨48, _⟩ => ⟨S2x4x64x8192, .f32⟩
  | .hbm, ⟨49, _⟩ => ⟨S2x8192x4x64, .f32⟩
  | .hbm, ⟨50, _⟩ => ⟨S2x8192x256, .f32⟩
  | .hbm, ⟨51, _⟩ => ⟨S2x8448x256, .f32⟩
  | .hbm, ⟨52, _⟩ => ⟨S2x8448x256, .bf16⟩
  | _, _ => ⟨S2x8448x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Proof.Moe.Points.lean ====
/-
  Where each window's block lies at each grid point.
-/
module

public import proofs.«01_k».proof.Proof.Gen.KernelIdeal.Value

@[expose] public section

set_option maxRecDepth 16384

noncomputable section

open Idealize.ShloMosaic Idealize.ShloMosaic.TcCoe Idealize.SL.Sem
open Cert.KernelIdeal Cert.KernelIdeal.Gen

namespace Cert.Moe

/-- Where each window's block lies at a point: point `t` works on batch `t / 176`, row block `t / 16 % 11`, expert `t % 16 / 2`
    and half `t % 2` of the hidden layer. -/
theorem idx : ∀ t : Fin cfg0.N,
    win0_0.index t = ![t.val / 176, t.val / 16 % 11, 0] ∧ win0_1.index t = ![t.val / 176, 0, 0] ∧ win0_2.index t = ![0, 0]
    ∧ win0_3.index t = ![0, 0] ∧ win0_4.index t = ![0, 0] ∧ win0_5.index t = ![0, 0]
    ∧ win0_6.index t = ![t.val % 16 / 2, 0, t.val % 2] ∧ win0_7.index t = ![t.val % 16 / 2, 0, t.val % 2] ∧ win0_8.index t = ![t.val % 16 / 2, t.val % 2, 0]
    ∧ (grid0.coords t 1).val = t.val / 16 % 11 ∧ (grid0.coords t 2).val = t.val % 16 :=
  (by decide +kernel : ∀ t : Fin grid0.N, _)

/-- The expert number of a step, as the kernel computes it: half the step, rounded down. -/
def expertWord (s : BitVec 32) : BitVec 32 :=
  Scalar.select
    (Scalar.andi
      (Scalar.cmpi CmpIPredicate.ne (Scalar.subi (Scalar.extui (Scalar.cmpi CmpIPredicate.sgt s 0#32)) (Scalar.extui (Scalar.cmpi CmpIPredicate.slt s 0#32))) 1#32)
      (Scalar.cmpi CmpIPredicate.ne (Scalar.remsi s 2#32) 0#32))
    (Scalar.subi (Scalar.divsi s 2#32) 1#32) (Scalar.divsi s 2#32)

theorem expertWord_ofNat : ∀ s : Fin 16, expertWord (BitVec.ofNat 32 s.val) = BitVec.ofNat 32 (s.val / 2) := by
  decide +kernel

end Cert.Moe
-- ==== Proof.Moe.TopTwo.lean ====
/-
  The two greatest of a finite row of extended reals, the lower position first among equals: what a stable sort puts first and
  second, and what two rounds of "maximum, then lowest position holding it" find.
-/
module

public import Idealize.ShloMosaic.Lib.PlanTiles.StableSort
public import Idealize.ShloMosaic.Lib.SortNet.Extract
public import Idealize.ShloMosaic.Lib.Pipeline.ValueKit
public import Idealize.ShloMosaic.Lib.Pointwise

@[expose] public section

noncomputable section

open Idealize.ShloMosaic

namespace Cert.Moe

variable {n : ℕ}

/-- `p` holds the greatest entry of `L`, and no lower position holds as much. -/
def First (L : Fin n → EReal) (p : Fin n) : Prop := ∀ j, L j ≤ L p ∧ (L j = L p → p ≤ j)

/-- `q` is what `First` would choose with position `p` left out. -/
def Second (L : Fin n → EReal) (p q : Fin n) : Prop := q ≠ p ∧ ∀ j, j ≠ p → L j ≤ L q ∧ (L j = L q → q ≤ j)

/-- How many entries lie below entry `i`. -/
def below (L : Fin n → EReal) (i : Fin n) : ℕ := (Finset.univ.filter fun j => L j < L i).card

theorem below_lt_iff (L : Fin n → EReal) (i j : Fin n) : below L j < below L i ↔ L j < L i := by
  have mono : ∀ a b : Fin n, L a ≤ L b → below L a ≤ below L b := fun a b h =>
    Finset.card_le_card fun x hx => by
      rw [Finset.mem_filter] at hx ⊢
      exact ⟨hx.1, lt_of_lt_of_le hx.2 h⟩
  constructor
  · intro h
    by_contra hn
    exact absurd (mono i j (not_lt.mp hn)) (not_le.mpr h)
  · intro h
    refine Finset.card_lt_card ⟨fun x hx => ?_, fun hs => ?_⟩
    · rw [Finset.mem_filter] at hx ⊢
      exact ⟨hx.1, lt_trans hx.2 h⟩
    · have hj := hs (Finset.mem_filter.mpr ⟨Finset.mem_univ j, h⟩)
      exact lt_irrefl _ (Finset.mem_filter.mp hj).2

/-- "Greater first", as a Boolean. -/
def greater (L : Fin n → EReal) (a b : Fin n) : Bool := decide (L b < L a)

theorem greater_eq_below (L : Fin n → EReal) : greater L = fun x y => decide (below L y < below L x) := by
  funext x y
  exact decide_eq_decide.mpr (below_lt_iff L x y).symm

/-- Of two places of the stable sort the earlier holds the greater entry, or an equal one from a lower position. -/
theorem sortedFrom_order (L : Fin n → EReal) (i j : Fin n) (hij : i < j) :
    L (sortedFrom (greater L) j) ≤ L (sortedFrom (greater L) i)
      ∧ (L (sortedFrom (greater L) j) = L (sortedFrom (greater L) i) → sortedFrom (greater L) i ≤ sortedFrom (greater L) j) := by
  have hs := PlanTiles.pairwise_stableSort_lex (below L) (fun a b : Fin n => a < b) (List.finRange n) (List.pairwise_lt_finRange n)
  rw [← greater_eq_below] at hs
  have hp : ∀ a b : Fin (sortPositions n (greater L)).length, a < b →
      PlanTiles.Lex (below L) (fun a b : Fin n => a < b) ((sortPositions n (greater L)).get a) ((sortPositions n (greater L)).get b) :=
    List.pairwise_iff_get.mp hs
  have h : PlanTiles.Lex (below L) (fun a b : Fin n => a < b) (sortedFrom (greater L) i) (sortedFrom (greater L) j) := by
    unfold sortedFrom
    exact hp _ _ (by simp only [Fin.lt_def, Fin.val_cast]; exact hij)
  rcases h with h | ⟨h, hlt⟩
  · have h' := (below_lt_iff L _ _).mp h
    exact ⟨le_of_lt h', fun e => absurd (e ▸ h') (lt_irrefl _)⟩
  · refine ⟨not_lt.mp fun hc => ?_, fun _ => le_of_lt hlt⟩
    have := (below_lt_iff L _ _).mpr hc
    omega

/-- The stable sort puts the greatest entry first. -/
theorem first_sortedFrom (L : Fin n → EReal) (i : Fin n) (hi : i.val = 0) : First L (sortedFrom (greater L) i) := by
  intro j
  obtain ⟨k, rfl⟩ := sortedFrom_surjective (greater L) j
  rcases Nat.eq_zero_or_pos k.val with h | h
  · have : k = i := Fin.ext (h.trans hi.symm)
    subst this
    exact ⟨le_refl _, fun _ => le_refl _⟩
  · exact sortedFrom_order L i k (by rw [Fin.lt_def]; omega)

/-- The stable sort puts the greatest of the other entries second. -/
theorem second_sortedFrom (L : Fin n → EReal) (i k : Fin n) (hi : i.val = 0) (hk : k.val = 1) :
    Second L (sortedFrom (greater L) i) (sortedFrom (greater L) k) := by
  refine ⟨fun e => ?_, fun j hj => ?_⟩
  · have := sortedFrom_injective (greater L) e
    rw [this] at hk
    omega
  · obtain ⟨l, rfl⟩ := sortedFrom_surjective (greater L) j
    by_cases h : l = k
    · subst h
      exact ⟨le_refl _, fun _ => le_refl _⟩
    · have h1 : l.val ≠ 1 := fun e => h (Fin.ext (e.trans hk.symm))
      have h0 : l.val ≠ 0 := fun e => hj (congrArg _ (Fin.ext (e.trans hi.symm)))
      exact sortedFrom_order L k l (by rw [Fin.lt_def]; omega)

/-! ## The same two positions found by maxima over 128 lanes -/

/-- A row of eight entries on 128 lanes, the other lanes at `−∞`. -/
def lanes (L : Fin 8 → EReal) (x : Fin 128) : EReal := if h : x.val < 8 then L ⟨x.val, h⟩ else ⊥

/-- Lane `p` of an eight-entry row. -/
def lane (p : Fin 8) : Fin 128 := ⟨p.val, by omega⟩

theorem lanes_lane (L : Fin 8 → EReal) (p : Fin 8) : lanes L (lane p) = L p := by
  unfold lanes lane
  rw [dif_pos p.isLt]

theorem fold_max_eq {ι : Type} [Fintype ι] (w : ι → EReal) (p : ι) (h : ∀ x, w x ≤ w p) : Finset.fold max ⊥ w Finset.univ = w p :=
  le_antisymm ((Finset.fold_max_le _).mpr ⟨bot_le, fun x _ => h x⟩) ((Finset.le_fold_max _).mpr (Or.inr ⟨p, Finset.mem_univ p, le_refl _⟩))

/-- The signed minimum over the lanes that satisfy `Q` (the others reading 128) is the lowest of them. -/
theorem fold_minsi_eq (f : Fin 128 → BitVec 32) (Q : Fin 128 → Prop) (hf : ∀ x, Q x → f x = BitVec.ofNat 32 x.val)
    (hn : ∀ x, ¬ Q x → f x = 128#32) (p : Fin 128) (hp : Q p) (hmin : ∀ x, Q x → p ≤ x) :
    Finset.fold IntOp.minsi 2147483647#32 f Finset.univ = BitVec.ofNat 32 p.val := by
  have toInt_lane : ∀ x : Fin 128, (BitVec.ofNat 32 x.val).toInt = (x.val : ℤ) := by decide
  apply BitVec.eq_of_toInt_eq
  rw [← Finset.fold_hom (op := IntOp.minsi) (op' := min) (m := BitVec.toInt) (fun x y => SortNet.toInt_minsi x y), toInt_lane]
  have val : ∀ x, (p.val : ℤ) ≤ (f x).toInt := fun x => by
    by_cases hx : Q x
    · rw [hf x hx, toInt_lane]
      have := hmin x hx
      rw [Fin.le_def] at this
      omega
    · rw [hn x hx, show (128#32 : BitVec 32).toInt = 128 by decide]
      have := p.isLt
      omega
  refine le_antisymm ((Finset.fold_min_le _).mpr (Or.inr ⟨p, Finset.mem_univ p, ?_⟩)) ((Finset.le_fold_min _).mpr ⟨?_, fun x _ => val x⟩)
  · show (f p).toInt ≤ _
    rw [hf p hp, toInt_lane]
  · rw [show (2147483647#32 : BitVec 32).toInt = 2147483647 by decide]
    have := p.isLt
    omega

section rounds
variable (L : Fin 8 → EReal) (p q : Fin 8) (hb : ∀ e, L e ≠ ⊥)
include hb

theorem lanes_le_first (hp : First L p) (x : Fin 128) : lanes L x ≤ L p := by
  unfold lanes
  split
  · exact (hp _).1
  · exact bot_le

theorem first_le_lane (hp : First L p) (x : Fin 128) (hx : lanes L x = L p) : lane p ≤ x := by
  unfold lanes at hx
  split at hx
  · exact (hp _).2 hx
  · exact absurd hx.symm (hb p)

/-- The row with the first choice masked out. -/
theorem masked_le_second (hp : First L p) (hq : Second L p q) (x : Fin 128) :
    (if x = lane p then ⊥ else lanes L x) ≤ L q := by
  split
  · exact bot_le
  · rename_i hx
    unfold lanes
    split
    · rename_i h8
      exact (hq.2 _ fun e => hx (Fin.ext (show x.val = p.val from congrArg Fin.val e))).1
    · exact bot_le

theorem second_le_lane (hp : First L p) (hq : Second L p q) (x : Fin 128)
    (hx : (if x = lane p then ⊥ else lanes L x) = L q) : lane q ≤ x := by
  split at hx
  · exact absurd hx.symm (hb q)
  · rename_i hne
    unfold lanes at hx
    split at hx
    · exact (hq.2 _ fun e => hne (Fin.ext (show x.val = p.val from congrArg Fin.val e))).2 hx
    · exact absurd hx.symm (hb q)

theorem masked_at_second (hq : Second L p q) : (if lane q = lane p then ⊥ else lanes L (lane q)) = L q := by
  have hne : ¬ lane q = lane p := fun e => hq.1 (Fin.ext (show (lane q).val = (lane p).val from congrArg Fin.val e))
  rw [if_neg hne, lanes_lane]

theorem fold_max_first (hp : First L p) : Finset.fold max ⊥ (lanes L) Finset.univ = L p := by
  rw [fold_max_eq (lanes L) (lane p) (fun x => by rw [lanes_lane]; exact lanes_le_first L p hb hp x), lanes_lane]

theorem fold_max_second (hp : First L p) (hq : Second L p q) :
    Finset.fold max ⊥ (fun x => if x = lane p then ⊥ else lanes L x) Finset.univ = L q := by
  rw [fold_max_eq (fun x => if x = lane p then ⊥ else lanes L x) (lane q)
    (fun x => by rw [masked_at_second L p q hb hq]; exact masked_le_second L p q hb hp hq x)]
  exact masked_at_second L p q hb hq

end rounds

/-- The weight expert `e` gets: the two-way softmax of the two greatest logits, nothing for the others. -/
def weight (L : Fin 8 → EReal) (p q e : Fin 8) : EReal :=
  if e = p then Ideal.div 1 (1 + Ideal.exp (L q - L p))
  else if e = q then Ideal.exp (L q - L p) * Ideal.div 1 (1 + Ideal.exp (L q - L p)) else 0

end Cert.Moe
-- ==== Proof.Moe.Spec.lean ====
/-
  The mixture-of-experts layer as mathematics on the extended reals: no tiles, no lanes, no program.
-/
module

public import proofs.«01_k».proof.Proof.Moe.TopTwo

@[expose] public section

noncomputable section

open Idealize.ShloMosaic

namespace Cert.Moe

/-- One gated column of a hidden layer: `silu a * b`. -/
def gated (a b : EReal) : EReal := a * Ideal.logistic a * b

/-- The layer's arguments: the rows, the latents' and the context's modulation (shift, scale, gate), the norm's gain, the router, the experts. -/
structure Layer where
  x : Fin 2 → Fin 8448 → Fin 1024 → EReal
  ml : Fin 2 → Fin 3 → Fin 1024 → EReal
  mc : Fin 3 → Fin 1024 → EReal
  g : Fin 1024 → EReal
  rw : Fin 1024 → Fin 8 → EReal
  rb : Fin 8 → EReal
  w1 : Fin 8 → Fin 1024 → Fin 1792 → EReal
  w3 : Fin 8 → Fin 1024 → Fin 1792 → EReal
  w2 : Fin 8 → Fin 1792 → Fin 1024 → EReal

namespace Layer
variable (A : Layer) (b : Fin 2) (n : Fin 8448)

/-- Row `k` of the modulation at a row: the context's on the first 256 rows, the latents' after them. -/
def modulation (k : Fin 3) (d : Fin 1024) : EReal := if n.val < 256 then A.mc k d else A.ml b k d

/-- The normed and modulated row. -/
def row (d : Fin 1024) : EReal :=
  A.x b n d * Ideal.rsqrt (Ideal.div (∑ y : Fin 1024, A.x b n y * A.x b n y) (Ideal.ofBits .f32 1149239296#32) + Ideal.ofBits .f32 897988541#32) * A.g d
    * (1 + A.modulation b n 1 d) + A.modulation b n 0 d

/-- The router's logits. -/
def logit (e : Fin 8) : EReal := (∑ y : Fin 1024, A.row b n y * A.rw y e) + A.rb e

/-- A column of expert `e`'s hidden layer. -/
def hidden (e : Fin 8) (j : Fin 1792) : EReal := gated (∑ y : Fin 1024, A.row b n y * A.w1 e y j) (∑ y : Fin 1024, A.row b n y * A.w3 e y j)

/-- Expert `e`'s row. -/
def expert (e : Fin 8) (d : Fin 1024) : EReal := ∑ j : Fin 1792, A.hidden b n e j * A.w2 e j d

/-- The layer's row, given which two experts are chosen. -/
def out (p q : Fin 8) (d : Fin 1024) : EReal :=
  A.x b n d + A.modulation b n 2 d * ∑ e : Fin 8, weight (A.logit b n) p q e * A.expert b n e d

/-- Half `k` of expert `e`'s row. -/
def half (e : Fin 8) (k : Fin 2) (d : Fin 1024) : EReal :=
  ∑ x : Fin 896, A.hidden b n e ⟨k.val * 896 + x.val, by omega⟩ * A.w2 e ⟨k.val * 896 + x.val, by omega⟩ d

theorem expert_eq (e : Fin 8) (d : Fin 1024) : A.expert b n e d = A.half b n e 0 d + A.half b n e 1 d := by
  unfold expert half
  rw [← Fin.sum_univ_two (f := fun k : Fin 2 => ∑ x : Fin 896, A.hidden b n e ⟨k.val * 896 + x.val, by omega⟩ * A.w2 e ⟨k.val * 896 + x.val, by omega⟩ d)]
  exact Fin.sum_univ_tiles 2 896 rfl (fun j : Fin 1792 => A.hidden b n e j * A.w2 e j d)

end Layer

/-- The first `k` terms of an eight-term sum. -/
def firstTerms (f : Fin 8 → EReal) (k : ℕ) : EReal := ∑ e ∈ Finset.range k, if h : e < 8 then f ⟨e, h⟩ else 0

theorem firstTerms_zero (f : Fin 8 → EReal) : firstTerms f 0 = 0 := by
  unfold firstTerms
  rw [Finset.range_zero, Finset.sum_empty]

theorem firstTerms_succ (f : Fin 8 → EReal) (k : ℕ) (h : k < 8) : firstTerms f (k + 1) = firstTerms f k + f ⟨k, h⟩ := by
  unfold firstTerms
  rw [Finset.sum_range_succ, dif_pos h]

theorem firstTerms_all (f : Fin 8 → EReal) : firstTerms f 8 = ∑ e : Fin 8, f e := by
  unfold firstTerms
  rw [Finset.sum_range]
  exact Finset.sum_congr rfl fun e _ => dif_pos e.isLt

end Cert.Moe
-- ==== Proof.Moe.Payload.lean ====
/-
  What each pure value of the mixture-of-experts body is at an index, over the extended reals.
-/
module

public import proofs.«01_k».proof.Proof.Gen.KernelIdeal.Skeleton
public import proofs.«01_k».proof.Proof.Moe.Spec
public import Idealize.ShloMosaic.Lib.WordCmp

@[expose] public section

set_option maxRecDepth 16384

noncomputable section

open Idealize.ShloMosaic Idealize.ShloMosaic.TcCoe Idealize.SL.Sem
open Cert.KernelIdeal Cert.KernelIdeal.Gen

namespace Cert.Moe

variable [hF : Cert.KernelIdeal.Facts]

/-- Whether row `r` of row block `a` is a context row, as the kernel's bit. -/
def ctxBit (a : BitVec 32) (r : ℕ) : BitVec 1 := IntOp.cmpi .slt (IntOp.addi (Scalar.muli a 768#32) (BitVec.ofNat 32 r)) 256#32

/-- Row blocks are numbered below 11, so the bit is the comparison of naturals. -/
theorem ctxBit_ofNat (b r : ℕ) (hb : b < 11) (hr : r < 768) : ctxBit (BitVec.ofNat 32 b) r = BitVec.ofBool (decide (768 * b + r < 256)) := by
  unfold ctxBit
  have e : IntOp.addi (Scalar.muli (BitVec.ofNat 32 b) 768#32) (BitVec.ofNat 32 r) = BitVec.ofNat 32 (768 * b + r) := by
    show BitVec.ofNat 32 b * 768#32 + BitVec.ofNat 32 r = _
    apply BitVec.eq_of_toNat_eq
    simp only [BitVec.toNat_add, BitVec.toNat_mul, BitVec.toNat_ofNat]
    omega
  rw [e, show (256#32 : BitVec 32) = BitVec.ofNat 32 256 from rfl, WordCmp.cmpi_slt_ofNat (by omega) (by omega)]

/-- An experts' tile: what the point adds to the expert's running row. -/
theorem pay1_at (h : Vec Ideal S768x1024 .bf16) (w1 w3 : Vec Ideal S1x1024x896 .bf16) (ea : Vec Ideal S768x1024 .f32)
    (w2 : Vec Ideal S1x896x1024 .bf16) (r : Fin 768) (d : Fin 1024) :
    k0_pay1 (F := Ideal) h w1 w3 ea w2 (ix2 r d) = ea (ix2 r d)
      + ∑ x : Fin 896, gated (∑ y : Fin 1024, h (ix2 r y) * w1 (ix3 0 y x)) (∑ y : Fin 1024, h (ix2 r y) * w3 (ix3 0 y x)) * w2 (ix3 0 x d) := by
  pointwise [k0_pay1]
  rfl

/-- The expert's row joins the accumulator, times lane `e` of the weights. -/
theorem pay2_at (e : BitVec 32) (v : IVec S768x128 32) (cb : Vec Ideal S768x128 .f32) (ac ea : Vec Ideal S768x1024 .f32) (r : Fin 768) (d : Fin 1024) :
    k0_pay2 (F := Ideal) e v cb ac ea (ix2 r d) = ac (ix2 r d)
      + (∑ x : Fin 128, Scalar.select (IntOp.cmpi .eq (v (ix2 r x)) e) (cb (ix2 r x)) 0) * ea (ix2 r d) := by
  pointwise [k0_pay2]

/-- A sum over the lanes that keeps lane `e` alone. -/
theorem lane_sum (f : Fin 128 → EReal) (e : Fin 8) :
    (∑ x : Fin 128, Scalar.select (IntOp.cmpi .eq (BitVec.ofNat 32 x.val) (BitVec.ofNat 32 e.val)) (f x) 0) = f (lane e) := by
  rw [Finset.sum_eq_single (lane e)]
  · rw [WordCmp.cmpi_eq_ofNat (by omega) (by omega), decide_eq_true (show (lane e).val = e.val from rfl)]
    exact if_pos rfl
  · intro x _ hx
    rw [WordCmp.cmpi_eq_ofNat (by omega) (by omega), decide_eq_false (fun h : x.val = e.val => hx (Fin.ext h))]
    exact if_neg (by decide)
  · exact fun h => absurd (Finset.mem_univ _) h

/-- The write-out: the residual plus the gate times the accumulated mixture. -/
theorem pay3_at (a : BitVec 32) (gc : Vec Ideal S1x1024 .f32) (gl : Vec Ideal S1x1x1024 .f32) (x : Vec Ideal S1x768x1024 .f32)
    (ac : Vec Ideal S768x1024 .f32) (z : Fin 1) (r : Fin 768) (d : Fin 1024) :
    k0_pay3 (F := Ideal) a gc gl x ac (ix3 z r d)
      = x (ix3 0 r d) + Scalar.select (ctxBit a r.val) (gc (ix2 0 d)) (gl (ix3 0 0 d)) * ac (ix2 r d) := by
  pointwise [k0_pay3]
  rfl

/-- The root-mean-square norm of a row, times the gain. -/
theorem pay4_at (x : Vec Ideal S1x768x1024 .f32) (g : Vec Ideal S1x1024 .f32) (r : Fin 768) (d : Fin 1024) :
    k0_pay4 (F := Ideal) x g (ix2 r d)
      = x (ix3 0 r d) * Ideal.rsqrt (Ideal.div (∑ y : Fin 1024, x (ix3 0 r y) * x (ix3 0 r y)) (Ideal.ofBits .f32 1149239296#32) + Ideal.ofBits .f32 897988541#32) * g (ix2 0 d) := by
  pointwise [k0_pay4]

/-- The shift of a row: the context's or the latents'. -/
theorem pay6_at (a : BitVec 32) (x : Vec Ideal S1x1x1024 .f32) (g : Vec Ideal S1x1024 .f32) (r : Fin 768) (d : Fin 1024) :
    k0_pay6 (F := Ideal) a x g (ix2 r d) = Scalar.select (ctxBit a r.val) (g (ix2 0 d)) (x (ix3 0 0 d)) := by
  pointwise [k0_pay6, k0_pay5]
  rfl

/-- The modulated row. -/
theorem pay10_at (v81 v93 : FVec Ideal S768x1024 .f32) (a : BitVec 32) (g : Vec Ideal S1x1024 .f32) (x : Vec Ideal S1x1x1024 .f32) (r : Fin 768) (d : Fin 1024) :
    k0_pay10 (F := Ideal) v81 v93 (k0_pay7 a) (k0_pay8 g) (k0_pay9 x) (ix2 r d)
      = v81 (ix2 r d) * (1 + Scalar.select (ctxBit a r.val) (g (ix2 0 d)) (x (ix3 0 0 d))) + v93 (ix2 r d) := by
  pointwise [k0_pay10, k0_pay7, k0_pay5, k0_pay8, k0_pay9]
  rfl

/-- The modulated row as the experts read it: the narrowing is no change here. -/
theorem pay11_eq (v81 v93 : FVec Ideal S768x1024 .f32) (v95 : IVec S768x1024 1) (v97 : FVec Ideal S768x1024 .f32) (v98 : FVec Ideal S1x1024 .f32) (r : Fin 768) (d : Fin 1024) :
    k0_pay11 (F := Ideal) v81 v93 v95 v97 v98 (ix2 r d) = k0_pay10 (F := Ideal) v81 v93 v95 v97 v98 (ix2 r d) := by
  pointwise [k0_pay11]

theorem pay12_at (j : S768x1024.Idx) : k0_pay12 (F := Ideal) j = 0 := by
  pointwise [k0_pay12]

theorem pay17_at (j : S768x1024.Idx) : k0_pay17 (F := Ideal) j = 0 := by
  pointwise [k0_pay17]

/-! ## The router -/

section router
variable (v81 v93 : FVec Ideal S768x1024 .f32) (v95 : IVec S768x1024 1) (v97 : FVec Ideal S768x1024 .f32) (v98 : FVec Ideal S1x1024 .f32)
  (rw_ : Vec Ideal S1024x128 .f32) (rb : Vec Ideal S1x128 .f32) (r : Fin 768) (L : Fin 8 → EReal)

/-- The masked logits of a row: the eight logits, and `−∞` on the lanes past them. -/
theorem pay13_at
    (hh : ∀ y, k0_pay10 (F := Ideal) v81 v93 v95 v97 v98 (ix2 r y) - k0_pay10 (F := Ideal) v81 v93 v95 v97 v98 (ix2 r y) = 0)
    (hw : ∀ y (e : Fin 8), rw_ (ix2 y (lane e)) - rw_ (ix2 y (lane e)) = 0)
    (hL : ∀ e : Fin 8, (∑ y : Fin 1024, k0_pay10 (F := Ideal) v81 v93 v95 v97 v98 (ix2 r y) * rw_ (ix2 y (lane e))) + rb (ix2 0 (lane e)) = L e)
    (x : Fin 128) :
    k0_pay13 (F := Ideal) (iota .tc S768x128 32 [1] iota_S768x128_d1_w32) v81 v93 v95 v97 v98 rw_ rb (ix2 r x) = lanes L x := by
  pointwise [k0_pay13]
  rw [show (8#32 : BitVec 32) = BitVec.ofNat 32 8 from rfl, WordCmp.cmpi_slt_ofNat (by omega) (by omega)]
  unfold lanes
  by_cases h : x.val < 8
  · obtain ⟨e, rfl⟩ : ∃ e : Fin 8, x = lane e := ⟨⟨x.val, h⟩, rfl⟩
    rw [decide_eq_true h, dif_pos h]
    refine (if_pos rfl).trans ?_
    have z1 : ∀ y, k0_pay10 (F := Ideal) v81 v93 v95 v97 v98 (ix2 r y) * (rw_ (ix2 y (lane e)) - rw_ (ix2 y (lane e))) = 0 := fun y => by
      rw [hw, mul_zero]
    have z2 : ∀ y, (k0_pay10 (F := Ideal) v81 v93 v95 v97 v98 (ix2 r y) - k0_pay10 (F := Ideal) v81 v93 v95 v97 v98 (ix2 r y)) * rw_ (ix2 y (lane e)) = 0 := fun y => by
      rw [hh, zero_mul]
    rw [Finset.sum_congr rfl fun y _ => z1 y, Finset.sum_congr rfl fun y _ => z2 y, Finset.sum_const_zero, add_zero, add_zero, hL]
    rfl
  · rw [decide_eq_false h, dif_neg h]
    exact if_neg (by decide)

theorem ofBits_neg_inf : Ideal.ofBits .f32 4286578688#32 = ⊥ := by simp [Ideal.ofBits, Ideal.ieee]

/-- The weights of a row from its masked logits. -/
theorem pay16_at (p q : Fin 8) (w : FVec Ideal S768x128 .f32) (v0 : FVec Ideal S768x1 .f32) (b : IVec S768x128 1)
    (hw : ∀ x, w (ix2 r x) = lanes L x) (hv : v0 (ix2 r 0) = L p) (hq : ∀ x, b (ix2 r x) = BitVec.ofBool (decide (lanes L x = L p)))
    (hb : ∀ e, L e ≠ ⊥) (hp : First L p) (hs : Second L p q) (e : Fin 8) :
    k0_pay16 (F := Ideal) w v0 b 128#32 (ix2 r (lane e)) = weight L p q e := by
  pointwise [k0_pay16]
  have first : Finset.fold IntOp.minsi 2147483647#32 (fun x => Scalar.select (b (ix2 r x)) (BitVec.ofNat 32 x.val) 128#32) Finset.univ
      = BitVec.ofNat 32 (lane p).val :=
    fold_minsi_eq _ (fun x => lanes L x = L p) (fun x h => by rw [hq, decide_eq_true h]; exact if_pos rfl)
      (fun x h => by rw [hq, decide_eq_false h]; exact if_neg (by decide)) (lane p) (lanes_lane L p) (fun x h => first_le_lane L p hb hp x h)
  have masked : ∀ x : Fin 128, Scalar.select (IntOp.cmpi .eq (BitVec.ofNat 32 x.val) (BitVec.ofNat 32 (lane p).val))
      (Named.named (F := Ideal) κ "mask" (φ := .f32) 4048155338#32) (w (ix2 r x)) = if x = lane p then ⊥ else lanes L x := fun x => by
    rw [WordCmp.cmpi_eq_ofNat (by omega) (by omega), hw]
    by_cases h : x = lane p
    · rw [decide_eq_true (show x.val = (lane p).val from congrArg _ h), if_pos h]
      exact if_pos rfl
    · rw [decide_eq_false (fun e : x.val = (lane p).val => h (Fin.ext e)), if_neg h]
      exact if_neg (by decide)
  simp only [first, masked, ofBits_neg_inf, fold_max_second L p q hb hp hs, hv]
  have second : Finset.fold IntOp.minsi 2147483647#32
      (fun x : Fin 128 => if (if x = lane p then ⊥ else lanes L x) = L q then BitVec.ofNat 32 x.val else 128#32) Finset.univ
      = BitVec.ofNat 32 (lane q).val :=
    fold_minsi_eq _ (fun x => (if x = lane p then ⊥ else lanes L x) = L q) (fun x h => if_pos h) (fun x h => if_neg h) (lane q)
      (masked_at_second L p q hb hs) (fun x h => second_le_lane L p q hb hp hs x h)
  rw [second]
  unfold weight
  rw [WordCmp.cmpi_eq_ofNat (by omega) (by omega), WordCmp.cmpi_eq_ofNat (by omega) (by omega)]
  by_cases h : e = p
  · rw [if_pos h, decide_eq_true (show (lane e).val = (lane p).val from congrArg (fun z : Fin 8 => z.val) h)]
    exact if_pos rfl
  · rw [if_neg h, decide_eq_false (fun k : (lane e).val = (lane p).val => h (Fin.ext k))]
    refine (if_neg (by decide)).trans ?_
    by_cases k : e = q
    · rw [if_pos k, decide_eq_true (show (lane e).val = (lane q).val from congrArg (fun z : Fin 8 => z.val) k)]
      exact if_pos rfl
    · rw [if_neg k, decide_eq_false (fun l : (lane e).val = (lane q).val => k (Fin.ext l))]
      exact if_neg (by decide)

/-- The kernel's weights: the two-way softmax of the two greatest logits. -/
theorem weights_at (p q : Fin 8)
    (hh : ∀ y, k0_pay10 (F := Ideal) v81 v93 v95 v97 v98 (ix2 r y) - k0_pay10 (F := Ideal) v81 v93 v95 v97 v98 (ix2 r y) = 0)
    (hw : ∀ y (e : Fin 8), rw_ (ix2 y (lane e)) - rw_ (ix2 y (lane e)) = 0)
    (hL : ∀ e : Fin 8, (∑ y : Fin 1024, k0_pay10 (F := Ideal) v81 v93 v95 v97 v98 (ix2 r y) * rw_ (ix2 y (lane e))) + rb (ix2 0 (lane e)) = L e)
    (hb : ∀ e, L e ≠ ⊥) (hp : First L p) (hs : Second L p q) (e : Fin 8) :
    k0_pay16 (F := Ideal) (k0_pay13 (iota .tc S768x128 32 [1] iota_S768x128_d1_w32) v81 v93 v95 v97 v98 rw_ rb)
      (k0_pay14 (iota .tc S768x128 32 [1] iota_S768x128_d1_w32) v81 v93 v95 v97 v98 rw_ rb)
      (k0_pay15 (iota .tc S768x128 32 [1] iota_S768x128_d1_w32) v81 v93 v95 v97 v98 rw_ rb) 128#32 (ix2 r (lane e)) = weight L p q e := by
  have h13 := pay13_at v81 v93 v95 v97 v98 rw_ rb r L hh hw hL
  have h14 : k0_pay14 (F := Ideal) (iota .tc S768x128 32 [1] iota_S768x128_d1_w32) v81 v93 v95 v97 v98 rw_ rb (ix2 r 0) = L p := by
    pointwise [k0_pay14]
    simp only [h13, ofBits_neg_inf]
    exact fold_max_first L p hb hp
  refine pay16_at r L p q _ _ _ h13 h14 (fun x => ?_) hb hp hs e
  pointwise [k0_pay15]
  rw [h13, h14]

end router

end Cert.Moe
-- ==== Proof.Moe.State.lean ====
/-
  What the body leaves in its scratches and in the output block at each kind of grid point, over what the point before left.
-/
module

public import proofs.«01_k».proof.Proof.Moe.Points
public import proofs.«01_k».proof.Proof.Moe.Payload
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace Cert.Moe

variable [hF : Cert.KernelIdeal.Facts]
variable (m : (ℓ : Loc nD τ sig) → Buf (Elt Ideal) ℓ)

/-- The modulated rows of a row block, from the point's input blocks. -/
def rows (c : Dev nD) (t : Fin cfg0.N) : FVec Ideal S768x1024 .f32 :=
  k0_pay10 (F := Ideal) (k0_pay4 (iblk m c 0 t) (iblk m c 3 t))
    (k0_pay6 (BitVec.ofNat 32 (grid0.coords t 1).val) (View.ld (iblk m c 1 t) (Rect.unit ![0, 0, 0] ![1, 1, 1024] inb_S1x3x1024_S1x1x1024_0_0_0))
      (View.ld (iblk m c 2 t) (Rect.unit ![0, 0] ![1, 1024] inb_S3x1024_S1x1024_0_0)))
    (k0_pay7 (BitVec.ofNat 32 (grid0.coords t 1).val)) (k0_pay8 (View.ld (iblk m c 2 t) (Rect.unit ![1, 0] ![1, 1024] inb_S3x1024_S1x1024_1_0)))
    (k0_pay9 (View.ld (iblk m c 1 t) (Rect.unit ![0, 1, 0] ![1, 1, 1024] inb_S1x3x1024_S1x1x1024_0_1_0)))

/-- At the first point of a row block the modulated rows are computed. -/
theorem rows_A (c : Dev nD) (t : Fin cfg0.N) (h0 : t.val % 16 = 0) (h1 : t.val % 2 = 0) (h2 : ¬t.val % 2 = 1) (h3 : ¬t.val % 16 = 15) :
    (outsAt0 m c t.val t.isLt).2.1 = k0_pay11 (F := Ideal) (k0_pay4 (iblk m c 0 t) (iblk m c 3 t)) (k0_pay6 (BitVec.ofNat 32 (grid0.coords t 1).val) (View.ld (iblk m c 1 t) (Rect.unit ![0, 0, 0] ![1, 1, 1024] inb_S1x3x1024_S1x1x1024_0_0_0)) (View.ld (iblk m c 2 t) (Rect.unit ![0, 0] ![1, 1024] inb_S3x1024_S1x1024_0_0))) (k0_pay7 (BitVec.ofNat 32 (grid0.coords t 1).val)) (k0_pay8 (View.ld (iblk m c 2 t) (Rect.unit ![1, 0] ![1, 1024] inb_S3x1024_S1x1024_1_0))) (k0_pay9 (View.ld (iblk m c 1 t) (Rect.unit ![0, 1, 0] ![1, 1, 1024] inb_S1x3x1024_S1x1x1024_0_1_0))) := by
  rw [outsAt0_A m c t h0 h1 h2 h3]
  frame_out
  rfl

/-- … and the routing weights, -/
theorem weights_A (c : Dev nD) (t : Fin cfg0.N) (h0 : t.val % 16 = 0) (h1 : t.val % 2 = 0) (h2 : ¬t.val % 2 = 1) (h3 : ¬t.val % 16 = 15) :
    (outsAt0 m c t.val t.isLt).2.2.1 = k0_pay16 (F := Ideal)
      (k0_pay13 (iota .tc S768x128 32 [1] iota_S768x128_d1_w32) (k0_pay4 (iblk m c 0 t) (iblk m c 3 t)) (k0_pay6 (BitVec.ofNat 32 (grid0.coords t 1).val) (View.ld (iblk m c 1 t) (Rect.unit ![0, 0, 0] ![1, 1, 1024] inb_S1x3x1024_S1x1x1024_0_0_0)) (View.ld (iblk m c 2 t) (Rect.unit ![0, 0] ![1, 1024] inb_S3x1024_S1x1024_0_0))) (k0_pay7 (BitVec.ofNat 32 (grid0.coords t 1).val)) (k0_pay8 (View.ld (iblk m c 2 t) (Rect.unit ![1, 0] ![1, 1024] inb_S3x1024_S1x1024_1_0))) (k0_pay9 (View.ld (iblk m c 1 t) (Rect.unit ![0, 1, 0] ![1, 1, 1024] inb_S1x3x1024_S1x1x1024_0_1_0))) (iblk m c 4 t) (iblk m c 5 t))
      (k0_pay14 (iota .tc S768x128 32 [1] iota_S768x128_d1_w32) (k0_pay4 (iblk m c 0 t) (iblk m c 3 t)) (k0_pay6 (BitVec.ofNat 32 (grid0.coords t 1).val) (View.ld (iblk m c 1 t) (Rect.unit ![0, 0, 0] ![1, 1, 1024] inb_S1x3x1024_S1x1x1024_0_0_0)) (View.ld (iblk m c 2 t) (Rect.unit ![0, 0] ![1, 1024] inb_S3x1024_S1x1024_0_0))) (k0_pay7 (BitVec.ofNat 32 (grid0.coords t 1).val)) (k0_pay8 (View.ld (iblk m c 2 t) (Rect.unit ![1, 0] ![1, 1024] inb_S3x1024_S1x1024_1_0))) (k0_pay9 (View.ld (iblk m c 1 t) (Rect.unit ![0, 1, 0] ![1, 1, 1024] inb_S1x3x1024_S1x1x1024_0_1_0))) (iblk m c 4 t) (iblk m c 5 t))
      (k0_pay15 (iota .tc S768x128 32 [1] iota_S768x128_d1_w32) (k0_pay4 (iblk m c 0 t) (iblk m c 3 t)) (k0_pay6 (BitVec.ofNat 32 (grid0.coords t 1).val) (View.ld (iblk m c 1 t) (Rect.unit ![0, 0, 0] ![1, 1, 1024] inb_S1x3x1024_S1x1x1024_0_0_0)) (View.ld (iblk m c 2 t) (Rect.unit ![0, 0] ![1, 1024] inb_S3x1024_S1x1024_0_0))) (k0_pay7 (BitVec.ofNat 32 (grid0.coords t 1).val)) (k0_pay8 (View.ld (iblk m c 2 t) (Rect.unit ![1, 0] ![1, 1024] inb_S3x1024_S1x1024_1_0))) (k0_pay9 (View.ld (iblk m c 1 t) (Rect.unit ![0, 1, 0] ![1, 1, 1024] inb_S1x3x1024_S1x1x1024_0_1_0))) (iblk m c 4 t) (iblk m c 5 t)) 128#32 := by
  rw [outsAt0_A m c t h0 h1 h2 h3]
  frame_out
  rfl

/-- … the accumulator is cleared, -/
theorem acc_A (c : Dev nD) (t : Fin cfg0.N) (h0 : t.val % 16 = 0) (h1 : t.val % 2 = 0) (h2 : ¬t.val % 2 = 1) (h3 : ¬t.val % 16 = 15) :
    (outsAt0 m c t.val t.isLt).2.2.2.1 = k0_pay12 (F := Ideal) := by
  rw [outsAt0_A m c t h0 h1 h2 h3]
  frame_out

/-- … and the first half of the first expert is computed. -/
theorem tile_A (c : Dev nD) (t : Fin cfg0.N) (h0 : t.val % 16 = 0) (h1 : t.val % 2 = 0) (h2 : ¬t.val % 2 = 1) (h3 : ¬t.val % 16 = 15) :
    (outsAt0 m c t.val t.isLt).2.2.2.2 = k0_pay1 (F := Ideal) (k0_pay11 (F := Ideal) (k0_pay4 (iblk m c 0 t) (iblk m c 3 t)) (k0_pay6 (BitVec.ofNat 32 (grid0.coords t 1).val) (View.ld (iblk m c 1 t) (Rect.unit ![0, 0, 0] ![1, 1, 1024] inb_S1x3x1024_S1x1x1024_0_0_0)) (View.ld (iblk m c 2 t) (Rect.unit ![0, 0] ![1, 1024] inb_S3x1024_S1x1024_0_0))) (k0_pay7 (BitVec.ofNat 32 (grid0.coords t 1).val)) (k0_pay8 (View.ld (iblk m c 2 t) (Rect.unit ![1, 0] ![1, 1024] inb_S3x1024_S1x1024_1_0))) (k0_pay9 (View.ld (iblk m c 1 t) (Rect.unit ![0, 1, 0] ![1, 1, 1024] inb_S1x3x1024_S1x1x1024_0_1_0)))) (iblk m c 6 t) (iblk m c 7 t) (k0_pay17 (F := Ideal)) (iblk m c 8 t) := by
  rw [outsAt0_A m c t h0 h1 h2 h3]
  frame_out
  rfl

/-- The modulated rows stay. -/
theorem rows_B (c : Dev nD) (t : Fin cfg0.N) (h0 : ¬t.val % 16 = 0) (h1 : ¬t.val % 2 = 0) (h2 : t.val % 2 = 1) (h3 : ¬t.val % 16 = 15) :
    (outsAt0 m c t.val t.isLt).2.1 = (outsAt0 m c (t.val - 1) (Nat.lt_of_le_of_lt (Nat.sub_le _ _) t.isLt)).2.1 := by
  rw [outsAt0_B m c t h0 h1 h2 h3]
  rfl

/-- The routing weights stay. -/
theorem weights_B (c : Dev nD) (t : Fin cfg0.N) (h0 : ¬t.val % 16 = 0) (h1 : ¬t.val % 2 = 0) (h2 : t.val % 2 = 1) (h3 : ¬t.val % 16 = 15) :
    (outsAt0 m c t.val t.isLt).2.2.1 = (outsAt0 m c (t.val - 1) (Nat.lt_of_le_of_lt (Nat.sub_le _ _) t.isLt)).2.2.1 := by
  rw [outsAt0_B m c t h0 h1 h2 h3]
  rfl

/-- The modulated rows stay. -/
theorem rows_C (c : Dev nD) (t : Fin cfg0.N) (h0 : ¬t.val % 16 = 0) (h1 : t.val % 2 = 0) (h2 : ¬t.val % 2 = 1) (h3 : ¬t.val % 16 = 15) :
    (outsAt0 m c t.val t.isLt).2.1 = (outsAt0 m c (t.val - 1) (Nat.lt_of_le_of_lt (Nat.sub_le _ _) t.isLt)).2.1 := by
  rw [outsAt0_C m c t h0 h1 h2 h3]
  rfl

/-- The routing weights stay. -/
theorem weights_C (c : Dev nD) (t : Fin cfg0.N) (h0 : ¬t.val % 16 = 0) (h1 : t.val % 2 = 0) (h2 : ¬t.val % 2 = 1) (h3 : ¬t.val % 16 = 15) :
    (outsAt0 m c t.val t.isLt).2.2.1 = (outsAt0 m c (t.val - 1) (Nat.lt_of_le_of_lt (Nat.sub_le _ _) t.isLt)).2.2.1 := by
  rw [outsAt0_C m c t h0 h1 h2 h3]
  rfl

/-- The modulated rows stay. -/
theorem rows_D (c : Dev nD) (t : Fin cfg0.N) (h0 : ¬t.val % 16 = 0) (h1 : ¬t.val % 2 = 0) (h2 : t.val % 2 = 1) (h3 : t.val % 16 = 15) :
    (outsAt0 m c t.val t.isLt).2.1 = (outsAt0 m c (t.val - 1) (Nat.lt_of_le_of_lt (Nat.sub_le _ _) t.isLt)).2.1 := by
  rw [outsAt0_D m c t h0 h1 h2 h3]
  rfl

/-- The routing weights stay. -/
theorem weights_D (c : Dev nD) (t : Fin cfg0.N) (h0 : ¬t.val % 16 = 0) (h1 : ¬t.val % 2 = 0) (h2 : t.val % 2 = 1) (h3 : t.val % 16 = 15) :
    (outsAt0 m c t.val t.isLt).2.2.1 = (outsAt0 m c (t.val - 1) (Nat.lt_of_le_of_lt (Nat.sub_le _ _) t.isLt)).2.2.1 := by
  rw [outsAt0_D m c t h0 h1 h2 h3]
  rfl

/-- The accumulator stays at the first half of an expert, -/
theorem acc_C (c : Dev nD) (t : Fin cfg0.N) (h0 : ¬t.val % 16 = 0) (h1 : t.val % 2 = 0) (h2 : ¬t.val % 2 = 1) (h3 : ¬t.val % 16 = 15) :
    (outsAt0 m c t.val t.isLt).2.2.2.1 = (outsAt0 m c (t.val - 1) (Nat.lt_of_le_of_lt (Nat.sub_le _ _) t.isLt)).2.2.2.1 := by
  rw [outsAt0_C m c t h0 h1 h2 h3]
  rfl

/-- … whose row starts afresh. -/
theorem tile_C (c : Dev nD) (t : Fin cfg0.N) (h0 : ¬t.val % 16 = 0) (h1 : t.val % 2 = 0) (h2 : ¬t.val % 2 = 1) (h3 : ¬t.val % 16 = 15) :
    (outsAt0 m c t.val t.isLt).2.2.2.2 = k0_pay1 (F := Ideal) (outsAt0 m c (t.val - 1) (Nat.lt_of_le_of_lt (Nat.sub_le _ _) t.isLt)).2.1 (iblk m c 6 t) (iblk m c 7 t) (k0_pay17 (F := Ideal)) (iblk m c 8 t) := by
  rw [outsAt0_C m c t h0 h1 h2 h3]
  frame_out
  simp only [read_unread_whole]

/-- At the second half of an expert the accumulator takes the expert's row in. -/
theorem acc_B (c : Dev nD) (t : Fin cfg0.N) (h0 : ¬t.val % 16 = 0) (h1 : ¬t.val % 2 = 0) (h2 : t.val % 2 = 1) (h3 : ¬t.val % 16 = 15) :
    (outsAt0 m c t.val t.isLt).2.2.2.1 = k0_pay2 (F := Ideal) (expertWord (BitVec.ofNat 32 (grid0.coords t 2).val)) (iota .tc S768x128 32 [1] iota_S768x128_d1_w32) (outsAt0 m c (t.val - 1) (Nat.lt_of_le_of_lt (Nat.sub_le _ _) t.isLt)).2.2.1 (outsAt0 m c (t.val - 1) (Nat.lt_of_le_of_lt (Nat.sub_le _ _) t.isLt)).2.2.2.1
      (k0_pay1 (F := Ideal) (outsAt0 m c (t.val - 1) (Nat.lt_of_le_of_lt (Nat.sub_le _ _) t.isLt)).2.1 (iblk m c 6 t) (iblk m c 7 t) (outsAt0 m c (t.val - 1) (Nat.lt_of_le_of_lt (Nat.sub_le _ _) t.isLt)).2.2.2.2 (iblk m c 8 t)) := by
  rw [outsAt0_B m c t h0 h1 h2 h3]
  frame_out
  simp only [read_unread_whole]
  rfl

/-- At the second half of an expert the accumulator takes the expert's row in. -/
theorem acc_D (c : Dev nD) (t : Fin cfg0.N) (h0 : ¬t.val % 16 = 0) (h1 : ¬t.val % 2 = 0) (h2 : t.val % 2 = 1) (h3 : t.val % 16 = 15) :
    (outsAt0 m c t.val t.isLt).2.2.2.1 = k0_pay2 (F := Ideal) (expertWord (BitVec.ofNat 32 (grid0.coords t 2).val)) (iota .tc S768x128 32 [1] iota_S768x128_d1_w32) (outsAt0 m c (t.val - 1) (Nat.lt_of_le_of_lt (Nat.sub_le _ _) t.isLt)).2.2.1 (outsAt0 m c (t.val - 1) (Nat.lt_of_le_of_lt (Nat.sub_le _ _) t.isLt)).2.2.2.1
      (k0_pay1 (F := Ideal) (outsAt0 m c (t.val - 1) (Nat.lt_of_le_of_lt (Nat.sub_le _ _) t.isLt)).2.1 (iblk m c 6 t) (iblk m c 7 t) (outsAt0 m c (t.val - 1) (Nat.lt_of_le_of_lt (Nat.sub_le _ _) t.isLt)).2.2.2.2 (iblk m c 8 t)) := by
  rw [outsAt0_D m c t h0 h1 h2 h3]
  frame_out
  simp only [read_unread_whole]
  rfl

/-- At the last point of a row block the output is written. -/
theorem out_D (c : Dev nD) (t : Fin cfg0.N) (h0 : ¬t.val % 16 = 0) (h1 : ¬t.val % 2 = 0) (h2 : t.val % 2 = 1) (h3 : t.val % 16 = 15) :
    (outsAt0 m c t.val t.isLt).1 = k0_pay3 (F := Ideal) (BitVec.ofNat 32 (grid0.coords t 1).val) (View.ld (iblk m c 2 t) (Rect.unit ![2, 0] ![1, 1024] inb_S3x1024_S1x1024_2_0))
      (View.ld (iblk m c 1 t) (Rect.unit ![0, 2, 0] ![1, 1, 1024] inb_S1x3x1024_S1x1x1024_0_2_0)) (iblk m c 0 t)
      (k0_pay2 (F := Ideal) (expertWord (BitVec.ofNat 32 (grid0.coords t 2).val)) (iota .tc S768x128 32 [1] iota_S768x128_d1_w32) (outsAt0 m c (t.val - 1) (Nat.lt_of_le_of_lt (Nat.sub_le _ _) t.isLt)).2.2.1 (outsAt0 m c (t.val - 1) (Nat.lt_of_le_of_lt (Nat.sub_le _ _) t.isLt)).2.2.2.1
      (k0_pay1 (F := Ideal) (outsAt0 m c (t.val - 1) (Nat.lt_of_le_of_lt (Nat.sub_le _ _) t.isLt)).2.1 (iblk m c 6 t) (iblk m c 7 t) (outsAt0 m c (t.val - 1) (Nat.lt_of_le_of_lt (Nat.sub_le _ _) t.isLt)).2.2.2.2 (iblk m c 8 t))) := by
  rw [outsAt0_D m c t h0 h1 h2 h3]
  frame_out
  simp only [read_unread_whole]
  rfl

end Cert.Moe
-- ==== Proof.Moe.Pad.lean ====
/-
  The router's weight and bias padded on the host: what the padded arrays hold on the eight lanes that stand for experts.
-/
module

public import proofs.«01_k».proof.Proof.Gen.KernelIdeal.Skeleton
public import proofs.«01_k».proof.Proof.Moe.TopTwo
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem
open Idealize.ShloMosaic.Routing
open Cert.KernelIdeal Cert.KernelIdeal.Gen

namespace Cert.Moe

variable [hF : Cert.KernelIdeal.Facts]

/-- Where every index word is zero, every update starts at the origin. -/
theorem start_zero {s si u : Shape} (d : ScatterDims s si u) (k : u.Idx) (ix : IVec si 32) (h : ∀ i, ix i = 0#32) (a : Fin s.rank) :
    d.start k ix a = 0 := by
  unfold ScatterDims.start
  split
  · rw [h]; rfl
  · rfl

theorem lands_weight (y : Fin 1024) (e : Fin 8) (r : Fin 1024) (x : Fin 128) (ix : IVec S1 32) (h : ∀ i, ix i = 0#32) :
    (scatter_S1024x128_S1_S1024x8_01_n_1_0).resultIdx? (ix2 y e) ix = some (ix2 r x) ↔ y = r ∧ e.val = x.val := by
  have w0 : (scatter_S1024x128_S1_S1024x8_01_n_1_0).window (ix2 y e) 0 = y.val := rfl
  have w1 : (scatter_S1024x128_S1_S1024x8_01_n_1_0).window (ix2 y e) 1 = e.val := rfl
  rw [resultIdx?_eq_some]
  constructor
  · intro hl
    have h0 := hl 0
    have h1 := hl 1
    rw [start_zero _ _ ix h, w0] at h0
    rw [start_zero _ _ ix h, w1] at h1
    have h0' : (0 : ℤ) + (y.val : ℤ) = (r.val : ℤ) := h0
    have h1' : (0 : ℤ) + (e.val : ℤ) = (x.val : ℤ) := h1
    exact ⟨Fin.ext (by omega), by omega⟩
  · rintro ⟨h0, h1⟩ a
    rw [start_zero _ _ ix h]
    match a with
    | ⟨0, _⟩ => show (0 : ℤ) + (y.val : ℤ) = (r.val : ℤ); rw [h0]; omega
    | ⟨1, _⟩ => show (0 : ℤ) + (e.val : ℤ) = (x.val : ℤ); omega

/-- The padded router weight at an expert's lane. -/
theorem pad_weight (x0 : FVec Ideal S1024x128 .f32) (ix : IVec S1 32) (h : ∀ i, ix i = 0#32) (w : FVec Ideal S1024x8 .f32) (y : Fin 1024) (e : Fin 8) :
    Host.scatter scatter_S1024x128_S1_S1024x8_01_n_1_0 (fun _ b => b) x0 ix w (ix2 y (lane e)) = w (ix2 y e) := by
  refine scatter_set_hit _ x0 ix w _ _ (fun k hk => ?_) (ix2 y e) ((lands_weight y e y (lane e) ix h).mpr ⟨rfl, rfl⟩)
  idx_vars k
  have hl := (lands_weight k0 k1 y (lane e) ix h).mp hk
  rw [hl.1, show k1 = e from Fin.ext hl.2]

theorem lands_bias (e : Fin 8) (r : Fin 1) (x : Fin 128) (ix : IVec S2 32) (h : ∀ i, ix i = 0#32) :
    (scatter_S1x128_S2_S8_0_0_01_0).resultIdx? (ix1 e) ix = some (ix2 r x) ↔ e.val = x.val := by
  have w0 : (scatter_S1x128_S2_S8_0_0_01_0).window (ix1 e) 0 = 0 := rfl
  have w1 : (scatter_S1x128_S2_S8_0_0_01_0).window (ix1 e) 1 = e.val := rfl
  rw [resultIdx?_eq_some]
  constructor
  · intro hl
    have h1 := hl 1
    rw [start_zero _ _ ix h, w1] at h1
    have h1' : (0 : ℤ) + (e.val : ℤ) = (x.val : ℤ) := h1
    omega
  · intro h1 a
    rw [start_zero _ _ ix h]
    match a with
    | ⟨0, _⟩ => show (0 : ℤ) + ((0 : ℕ) : ℤ) = (r.val : ℤ); omega
    | ⟨1, _⟩ => show (0 : ℤ) + (e.val : ℤ) = (x.val : ℤ); omega

/-- The padded router bias at an expert's lane. -/
theorem pad_bias (x0 : FVec Ideal S1x128 .f32) (ix : IVec S2 32) (h : ∀ i, ix i = 0#32) (w : FVec Ideal S8 .f32) (e : Fin 8) :
    Host.scatter scatter_S1x128_S2_S8_0_0_01_0 (fun _ b => b) x0 ix w (ix2 0 (lane e)) = w (ix1 e) := by
  refine scatter_set_hit _ x0 ix w _ _ (fun k hk => ?_) (ix1 e) ((lands_bias e 0 (lane e) ix h).mpr rfl)
  idx_vars k
  rw [show k0 = e from Fin.ext ((lands_bias k0 0 (lane e) ix h).mp hk)]

end Cert.Moe
-- ==== Proof.Moe.Blocks.lean ====
/-
  What the input blocks of a grid point hold, over the argument arrays.
-/
module

public import proofs.«01_k».proof.Proof.Moe.Points
public import proofs.«01_k».proof.Proof.Moe.Pad
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.KernelIdeal Cert.KernelIdeal.Gen

namespace Cert.Moe

variable [hF : Cert.KernelIdeal.Facts]
variable (m : (ℓ : Loc nD τ sig) → Buf (Elt Ideal) ℓ)

/-- The rows. -/
theorem blk0 (c : Dev nD) (t : Fin cfg0.N) (z : Fin 1) (r : Fin 768) (d : Fin 1024) (b : Fin 2) (n : Fin 8448)
    (hb : b.val = t.val / 176) (hn : n.val = t.val / 16 % 11 * 768 + r.val) :
    iblk m c 0 t (ix3 z r d) = m ((c : Thread nD τ).loc main_arg0) (ix3 b n d) := by
  blk_ext [iblk, V, idx t]

/-- The norm's gain. -/
theorem blk3 (c : Dev nD) (t : Fin cfg0.N) (z : Fin 1) (d : Fin 1024) :
    iblk m c 3 t (ix2 z d) = m ((c : Thread nD τ).loc main_arg3) (ix1 d) := by
  blk_simp [iblk, idx t]
  entry_read
  have hi : (((View.whole main_v0).slice (win0_3.rect t)).emb (ix2 z d) : S1x1024.Idx) = ix2 z d := by blk_ext [idx t]
  refine (congrArg _ hi).trans ?_
  pointwise

/-- The router's weight at an expert's lane. -/
theorem blk4 (c : Dev nD) (t : Fin cfg0.N) (y : Fin 1024) (e : Fin 8) :
    iblk m c 4 t (ix2 y (lane e)) = m ((c : Thread nD τ).loc main_arg4) (ix2 y e) := by
  blk_simp [iblk, idx t]
  entry_read
  have hi : (((View.whole main_v3).slice (win0_4.rect t)).emb (ix2 y (lane e)) : S1024x128.Idx) = ix2 y (lane e) := by blk_ext [idx t]
  exact (congrArg _ hi).trans (pad_weight _ _ (fun i => rfl) _ y e)

/-- The router's bias at an expert's lane. -/
theorem blk5 (c : Dev nD) (t : Fin cfg0.N) (e : Fin 8) :
    iblk m c 5 t (ix2 0 (lane e)) = m ((c : Thread nD τ).loc main_arg5) (ix1 e) := by
  blk_simp [iblk, idx t]
  entry_read
  have hi : (((View.whole main_v8).slice (win0_5.rect t)).emb (ix2 0 (lane e)) : S1x128.Idx) = ix2 0 (lane e) := by blk_ext [idx t]
  refine (congrArg _ hi).trans (pad_bias _ _ (fun i => ?_) _ e)
  idx_vars i
  pointwise
  split <;> rfl

/-- The experts' first weight. -/
theorem blk6 (c : Dev nD) (t : Fin cfg0.N) (z : Fin 1) (y : Fin 1024) (x : Fin 896) (e : Fin 8) (j : Fin 1792)
    (he : e.val = t.val % 16 / 2) (hj : j.val = t.val % 2 * 896 + x.val) :
    iblk m c 6 t (ix3 z y x) = m ((c : Thread nD τ).loc main_arg6) (ix3 e y j) := by
  blk_simp [iblk, idx t]
  entry_read
  show (m (c, Proc.tc.devRef main_arg6) _ : EReal) = _
  blk_ext [idx t]

/-- The experts' gate weight. -/
theorem blk7 (c : Dev nD) (t : Fin cfg0.N) (z : Fin 1) (y : Fin 1024) (x : Fin 896) (e : Fin 8) (j : Fin 1792)
    (he : e.val = t.val % 16 / 2) (hj : j.val = t.val % 2 * 896 + x.val) :
    iblk m c 7 t (ix3 z y x) = m ((c : Thread nD τ).loc main_arg7) (ix3 e y j) := by
  blk_simp [iblk, idx t]
  entry_read
  show (m (c, Proc.tc.devRef main_arg7) _ : EReal) = _
  blk_ext [idx t]

/-- The experts' second weight. -/
theorem blk8 (c : Dev nD) (t : Fin cfg0.N) (z : Fin 1) (x : Fin 896) (d : Fin 1024) (e : Fin 8) (j : Fin 1792)
    (he : e.val = t.val % 16 / 2) (hj : j.val = t.val % 2 * 896 + x.val) :
    iblk m c 8 t (ix3 z x d) = m ((c : Thread nD τ).loc main_arg8) (ix3 e j d) := by
  blk_simp [iblk, idx t]
  entry_read
  show (m (c, Proc.tc.devRef main_arg8) _ : EReal) = _
  blk_ext [idx t]

/-- Row `k` of the latents' modulation. -/
theorem ld1 (c : Dev nD) (t : Fin cfg0.N) (k : ℕ) (hk : k < 3) (inb) (d : Fin 1024) (b : Fin 2) (hb : b.val = t.val / 176) :
    View.ld (iblk m c 1 t) (Rect.unit (s := S1x3x1024) ![0, k, 0] ![1, 1, 1024] inb) (ix3 0 0 d) = m ((c : Thread nD τ).loc main_arg1) (ix3 b ⟨k, hk⟩ d) := by
  rw [View.ld_apply]
  blk_ext [iblk, V, idx t]
  · show k + 1 * 0 = k; omega
  · show 0 + 1 * d.val = d.val; omega

/-- Row `k` of the context's modulation. -/
theorem ld2 (c : Dev nD) (t : Fin cfg0.N) (k : ℕ) (hk : k < 3) (inb) (d : Fin 1024) :
    View.ld (iblk m c 2 t) (Rect.unit (s := S3x1024) ![k, 0] ![1, 1024] inb) (ix2 0 d) = m ((c : Thread nD τ).loc main_arg2) (ix2 ⟨k, hk⟩ d) := by
  rw [View.ld_apply]
  blk_ext [iblk, V, idx t]
  · show k + 1 * 0 = k; omega
  · show 0 + 1 * d.val = d.val; omega

end Cert.Moe
-- ==== Proof.Moe.Sweep.lean ====
/-
  One row block's sixteen points: what the scratches hold after each, and the row the last one writes.
-/
module

public import proofs.«01_k».proof.Proof.Moe.State
public import proofs.«01_k».proof.Proof.Moe.Blocks

@[expose] public section

set_option maxRecDepth 16384

noncomputable section

open Idealize.ShloMosaic Idealize.ShloMosaic.TcCoe Idealize.SL.Sem
open Cert.KernelIdeal Cert.KernelIdeal.Gen

namespace Cert.Moe

variable [hF : Cert.KernelIdeal.Facts]
variable (m : (ℓ : Loc nD τ sig) → Buf (Elt Ideal) ℓ)

/-- The kernel's argument arrays as the layer's arguments. -/
def layer (c : Dev nD) : Layer where
  x b n d := m ((c : Thread nD τ).loc main_arg0) (ix3 b n d)
  ml b k d := m ((c : Thread nD τ).loc main_arg1) (ix3 b k d)
  mc k d := m ((c : Thread nD τ).loc main_arg2) (ix2 k d)
  g d := m ((c : Thread nD τ).loc main_arg3) (ix1 d)
  rw y e := m ((c : Thread nD τ).loc main_arg4) (ix2 y e)
  rb e := m ((c : Thread nD τ).loc main_arg5) (ix1 e)
  w1 e y j := m ((c : Thread nD τ).loc main_arg6) (ix3 e y j)
  w3 e y j := m ((c : Thread nD τ).loc main_arg7) (ix3 e y j)
  w2 e j d := m ((c : Thread nD τ).loc main_arg8) (ix3 e j d)

/-- Point `t` works on row `n` of batch `b` at row `r` of its block. -/
def At (t : Fin cfg0.N) (r : Fin 768) (b : Fin 2) (n : Fin 8448) : Prop := b.val = t.val / 176 ∧ n.val = t.val / 16 % 11 * 768 + r.val

/-- The choice between context and latents at a row of a block. -/
theorem pick_at (t : Fin cfg0.N) (r : Fin 768) (b : Fin 2) (n : Fin 8448) (h : At t r b n) (u v : EReal) :
    Scalar.select (ctxBit (BitVec.ofNat 32 (grid0.coords t 1).val) r.val) u v = if n.val < 256 then u else v := by
  obtain ⟨-, -, -, -, -, -, -, -, -, h1, -⟩ := idx t
  rw [h1, ctxBit_ofNat _ _ (Nat.mod_lt _ (by omega)) r.isLt]
  by_cases hn : n.val < 256
  · rw [decide_eq_true (show 768 * (t.val / 16 % 11) + r.val < 256 by have := h.2; omega), if_pos hn]
    exact if_pos rfl
  · rw [decide_eq_false (show ¬ 768 * (t.val / 16 % 11) + r.val < 256 by have := h.2; omega), if_neg hn]
    exact if_neg (by decide)

/-- The modulated rows the point computes. -/
theorem rows_at (c : Dev nD) (t : Fin cfg0.N) (r : Fin 768) (b : Fin 2) (n : Fin 8448) (h : At t r b n) (d : Fin 1024) :
    rows m c t (ix2 r d) = (layer m c).row b n d := by
  unfold rows
  rw [pay10_at, pay4_at, pay6_at, pick_at t r b n h, pick_at t r b n h, blk3, blk0 m c t 0 r d b n h.1 h.2,
    ld2 m c t 1 (by omega), ld1 m c t 1 (by omega) _ d b h.1, ld2 m c t 0 (by omega), ld1 m c t 0 (by omega) _ d b h.1]
  have e : ∀ y, iblk m c 0 t (ix3 0 r y) = (layer m c).x b n y := fun y => blk0 m c t 0 r y b n h.1 h.2
  simp only [e]
  rfl

section point
variable (c : Dev nD) (t : Fin cfg0.N) (r : Fin 768) (b : Fin 2) (n : Fin 8448) (h : At t r b n)
include h

/-- The tile a point adds to the running expert's row. -/
theorem tile_at (hs : FVec Ideal S768x1024 .bf16) (ea : FVec Ideal S768x1024 .f32) (hh : ∀ y, hs (ix2 r y) = (layer m c).row b n y)
    (e : Fin 8) (k : Fin 2) (he : e.val = t.val % 16 / 2) (hk : k.val = t.val % 2) (d : Fin 1024) :
    k0_pay1 (F := Ideal) hs (iblk m c 6 t) (iblk m c 7 t) ea (iblk m c 8 t) (ix2 r d) = ea (ix2 r d) + (layer m c).half b n e k d := by
  rw [pay1_at]
  congr 1
  unfold Layer.half
  refine Finset.sum_congr rfl fun x _ => ?_
  have hj : k.val * 896 + x.val < 1792 := by omega
  have w1 : ∀ y, iblk m c 6 t (ix3 0 y x) = (layer m c).w1 e y ⟨k.val * 896 + x.val, hj⟩ := fun y =>
    blk6 m c t 0 y x e ⟨k.val * 896 + x.val, hj⟩ he (by rw [← hk])
  have w3 : ∀ y, iblk m c 7 t (ix3 0 y x) = (layer m c).w3 e y ⟨k.val * 896 + x.val, hj⟩ := fun y =>
    blk7 m c t 0 y x e ⟨k.val * 896 + x.val, hj⟩ he (by rw [← hk])
  have w2 : iblk m c 8 t (ix3 0 x d) = (layer m c).w2 e ⟨k.val * 896 + x.val, hj⟩ d :=
    blk8 m c t 0 x d e ⟨k.val * 896 + x.val, hj⟩ he (by rw [← hk])
  simp only [hh, w1, w3, w2]
  rfl

/-- The accumulator after it takes an expert's row in. -/
theorem acc_at (cb : FVec Ideal S768x128 .f32) (ac ea : FVec Ideal S768x1024 .f32) (e : Fin 8) (he : e.val = t.val % 16 / 2) (d : Fin 1024) :
    k0_pay2 (F := Ideal) (expertWord (BitVec.ofNat 32 (grid0.coords t 2).val)) (iota .tc S768x128 32 [1] iota_S768x128_d1_w32) cb ac ea (ix2 r d)
      = ac (ix2 r d) + cb (ix2 r (lane e)) * ea (ix2 r d) := by
  obtain ⟨-, -, -, -, -, -, -, -, -, -, h2⟩ := idx t
  rw [h2, expertWord_ofNat ⟨t.val % 16, Nat.mod_lt _ (by omega)⟩, pay2_at]
  show _ + (∑ x : Fin 128, Scalar.select (IntOp.cmpi .eq (iota .tc S768x128 32 [1] iota_S768x128_d1_w32 (ix2 r x)) (BitVec.ofNat 32 (t.val % 16 / 2))) (cb (ix2 r x)) 0) * _ = _
  have hi : ∀ x : Fin 128, iota .tc S768x128 32 [1] iota_S768x128_d1_w32 (ix2 r x) = BitVec.ofNat 32 x.val := fun x => by pointwise
  rw [← he]
  simp only [hi]
  rw [lane_sum]

end point

/-- What the scratches hold, at row `r`, after step `s` of the row block. -/
structure Held (c : Dev nD) (r : Fin 768) (b : Fin 2) (n : Fin 8448) (p q : Fin 8) (t : Fin cfg0.N) : Prop where
  rows : ∀ y, (outsAt0 m c t.val t.isLt).2.1 (ix2 r y) = (layer m c).row b n y
  weights : ∀ e, (outsAt0 m c t.val t.isLt).2.2.1 (ix2 r (lane e)) = weight ((layer m c).logit b n) p q e
  acc : ∀ d, (outsAt0 m c t.val t.isLt).2.2.2.1 (ix2 r d)
    = firstTerms (fun e => weight ((layer m c).logit b n) p q e * (layer m c).expert b n e d) ((t.val % 16 + 1) / 2)
  tile : t.val % 2 = 0 → ∀ (e : Fin 8), e.val = t.val % 16 / 2 → ∀ d, (outsAt0 m c t.val t.isLt).2.2.2.2 (ix2 r d) = (layer m c).half b n e 0 d

/-- What the router must be able to assume of a row: that no difference of a value with itself is anything but zero, and that no logit is `−∞`. -/
structure Routable (A : Layer) (b : Fin 2) (n : Fin 8448) : Prop where
  row : ∀ y, A.row b n y - A.row b n y = 0
  rw : ∀ y e, A.rw y e - A.rw y e = 0
  logit : ∀ e, A.logit b n e ≠ ⊥

section sweep
variable (c : Dev nD) (r : Fin 768) (b : Fin 2) (n : Fin 8448) (p q : Fin 8)

/-- The first point of a row block. -/
theorem held_first (t : Fin cfg0.N) (h : At t r b n) (hR : Routable (layer m c) b n) (hp : First ((layer m c).logit b n) p)
    (hq : Second ((layer m c).logit b n) p q) (h0 : t.val % 16 = 0) : Held m c r b n p q t := by
  have h1 : t.val % 2 = 0 := by omega
  have h2 : ¬ t.val % 2 = 1 := by omega
  have h3 : ¬ t.val % 16 = 15 := by omega
  have hrow : ∀ y, (outsAt0 m c t.val t.isLt).2.1 (ix2 r y) = (layer m c).row b n y := fun y => by
    rw [rows_A m c t h0 h1 h2 h3, pay11_eq]
    exact rows_at m c t r b n h y
  refine ⟨hrow, fun e => ?_, fun d => ?_, fun _ e he d => ?_⟩
  · rw [weights_A m c t h0 h1 h2 h3]
    refine weights_at _ _ _ _ _ _ _ r ((layer m c).logit b n) p q (fun y => ?_) (fun y e => ?_) (fun e => ?_) hR.logit hp hq e
    · have e := rows_at m c t r b n h y
      unfold rows at e
      rw [e]
      exact hR.row y
    · rw [blk4]
      exact hR.rw y e
    · rw [blk5]
      have w : ∀ y, iblk m c 4 t (ix2 y (lane e)) = (layer m c).rw y e := fun y => blk4 m c t y e
      have k := rows_at m c t r b n h
      unfold rows at k
      simp only [w, k]
      rfl
  · rw [acc_A m c t h0 h1 h2 h3, pay12_at, h0]
    exact (firstTerms_zero _).symm
  · rw [tile_A m c t h0 h1 h2 h3, tile_at m c t r b n h _ _ (fun y => by rw [pay11_eq]; exact rows_at m c t r b n h y) e 0 he (by rw [h1]; rfl) d, pay17_at, zero_add]

/-- A later point, from the point before it. -/
theorem held_next (t t' : Fin cfg0.N) (ht : t'.val = t.val - 1) (h : At t r b n) (h0 : ¬ t.val % 16 = 0) (ih : Held m c r b n p q t') : Held m c r b n p q t := by
  have et : (⟨t.val - 1, Nat.lt_of_le_of_lt (Nat.sub_le _ _) t.isLt⟩ : Fin cfg0.N) = t' := Fin.ext ht.symm
  subst et
  have hlt : t.val % 16 / 2 < 8 := by omega
  by_cases h1 : t.val % 2 = 0
  · have h2 : ¬ t.val % 2 = 1 := by omega
    have h3 : ¬ t.val % 16 = 15 := by omega
    refine ⟨fun y => ?_, fun e => ?_, fun d => ?_, fun _ e he d => ?_⟩
    · rw [rows_C m c t h0 h1 h2 h3]; exact ih.rows y
    · rw [weights_C m c t h0 h1 h2 h3]; exact ih.weights e
    · rw [acc_C m c t h0 h1 h2 h3]
      refine (ih.acc d).trans ?_
      show firstTerms _ (((t.val - 1) % 16 + 1) / 2) = _
      rw [show ((t.val - 1) % 16 + 1) / 2 = (t.val % 16 + 1) / 2 by omega]
    · rw [tile_C m c t h0 h1 h2 h3, tile_at m c t r b n h _ _ ih.rows e 0 he (by rw [h1]; rfl) d, pay17_at, zero_add]
  · have h2 : t.val % 2 = 1 := by omega
    have next : ∀ d, k0_pay2 (F := Ideal) (expertWord (BitVec.ofNat 32 (grid0.coords t 2).val)) (iota .tc S768x128 32 [1] iota_S768x128_d1_w32)
        (outsAt0 m c (t.val - 1) (Nat.lt_of_le_of_lt (Nat.sub_le _ _) t.isLt)).2.2.1 (outsAt0 m c (t.val - 1) (Nat.lt_of_le_of_lt (Nat.sub_le _ _) t.isLt)).2.2.2.1
        (k0_pay1 (F := Ideal) (outsAt0 m c (t.val - 1) (Nat.lt_of_le_of_lt (Nat.sub_le _ _) t.isLt)).2.1 (iblk m c 6 t) (iblk m c 7 t)
          (outsAt0 m c (t.val - 1) (Nat.lt_of_le_of_lt (Nat.sub_le _ _) t.isLt)).2.2.2.2 (iblk m c 8 t)) (ix2 r d)
        = firstTerms (fun e => weight ((layer m c).logit b n) p q e * (layer m c).expert b n e d) ((t.val % 16 + 1) / 2) := fun d => by
      have hh := ih.tile (by show (t.val - 1) % 2 = 0; omega) ⟨t.val % 16 / 2, hlt⟩ (by show t.val % 16 / 2 = (t.val - 1) % 16 / 2; omega) d
      have ha := ih.acc d
      have hw := ih.weights ⟨t.val % 16 / 2, hlt⟩
      rw [acc_at t r b n h _ _ _ ⟨t.val % 16 / 2, hlt⟩ rfl d, tile_at m c t r b n h _ _ ih.rows ⟨t.val % 16 / 2, hlt⟩ 1 rfl (by rw [h2]; rfl) d]
      rw [show (t.val % 16 + 1) / 2 = t.val % 16 / 2 + 1 by omega, firstTerms_succ _ _ hlt, Layer.expert_eq]
      rw [hh, ha, hw]
      show firstTerms _ (((t.val - 1) % 16 + 1) / 2) + _ = _
      rw [show ((t.val - 1) % 16 + 1) / 2 = t.val % 16 / 2 by omega]
    by_cases h3 : t.val % 16 = 15
    · refine ⟨fun y => ?_, fun e => ?_, fun d => ?_, fun k => absurd k h1⟩
      · rw [rows_D m c t h0 h1 h2 h3]; exact ih.rows y
      · rw [weights_D m c t h0 h1 h2 h3]; exact ih.weights e
      · rw [acc_D m c t h0 h1 h2 h3]; exact next d
    · refine ⟨fun y => ?_, fun e => ?_, fun d => ?_, fun k => absurd k h1⟩
      · rw [rows_B m c t h0 h1 h2 h3]; exact ih.rows y
      · rw [weights_B m c t h0 h1 h2 h3]; exact ih.weights e
      · rw [acc_B m c t h0 h1 h2 h3]; exact next d

/-- Every point of a row block. -/
theorem held (hR : Routable (layer m c) b n) (hp : First ((layer m c).logit b n) p) (hq : Second ((layer m c).logit b n) p q) :
    ∀ (s : ℕ) (t : Fin cfg0.N), t.val % 16 = s → At t r b n → Held m c r b n p q t := by
  intro s
  induction s with
  | zero => exact fun t ht h => held_first m c r b n p q t h hR hp hq ht
  | succ s ih =>
    intro t ht h
    refine held_next m c r b n p q t ⟨t.val - 1, Nat.lt_of_le_of_lt (Nat.sub_le _ _) t.isLt⟩ rfl h (by omega) (ih _ ?_ ?_)
    · show (t.val - 1) % 16 = s
      omega
    · refine ⟨h.1.trans ?_, h.2.trans ?_⟩
      · show t.val / 176 = (t.val - 1) / 176
        omega
      · show t.val / 16 % 11 * 768 + r.val = (t.val - 1) / 16 % 11 * 768 + r.val
        rw [show (t.val - 1) / 16 = t.val / 16 by omega]

/-- The row the last point of a row block writes. -/
theorem written (hR : Routable (layer m c) b n) (hp : First ((layer m c).logit b n) p) (hq : Second ((layer m c).logit b n) p q)
    (t : Fin cfg0.N) (h3 : t.val % 16 = 15) (h : At t r b n) (z : Fin 1) (d : Fin 1024) :
    (outsAt0 m c t.val t.isLt).1 (ix3 z r d) = (layer m c).out b n p q d := by
  have h0 : ¬ t.val % 16 = 0 := by omega
  have h1 : ¬ t.val % 2 = 0 := by omega
  have h2 : t.val % 2 = 1 := by omega
  have ha := (held m c r b n p q hR hp hq 15 t h3 h).acc d
  rw [acc_D m c t h0 h1 h2 h3] at ha
  rw [out_D m c t h0 h1 h2 h3, pay3_at, pick_at t r b n h, ha, blk0 m c t 0 r d b n h.1 h.2, ld2 m c t 2 (by omega), ld1 m c t 2 (by omega) _ d b h.1, h3]
  rw [show (15 + 1) / 2 = 8 from rfl, firstTerms_all]
  rfl

end sweep

end Cert.Moe
-- ==== Proof.Moe.Finite.lean ====
/-
  Finite inputs keep the router finite: the rows, the logits, and hence what two softmax weights are.
-/
module

public import proofs.«01_k».proof.Proof.Moe.Spec

@[expose] public section

noncomputable section

open Idealize.ShloMosaic

namespace Cert.Moe

theorem coe_sum {n : ℕ} (f : Fin n → ℝ) : ((∑ k, f k : ℝ) : EReal) = ∑ k, ((f k : ℝ) : EReal) := by
  induction n with
  | zero => simp
  | succ n ih => rw [Fin.sum_univ_castSucc, Fin.sum_univ_castSucc, EReal.coe_add, ih]

/-- A value that is neither infinity. -/
def IsReal (x : EReal) : Prop := ∃ r : ℝ, x = (r : EReal)

namespace IsReal

theorem add {x y : EReal} (hx : IsReal x) (hy : IsReal y) : IsReal (x + y) := by
  obtain ⟨r, rfl⟩ := hx
  obtain ⟨s, rfl⟩ := hy
  exact ⟨r + s, (EReal.coe_add r s).symm⟩

theorem mul {x y : EReal} (hx : IsReal x) (hy : IsReal y) : IsReal (x * y) := by
  obtain ⟨r, rfl⟩ := hx
  obtain ⟨s, rfl⟩ := hy
  exact ⟨r * s, (EReal.coe_mul r s).symm⟩

theorem one : IsReal 1 := ⟨1, EReal.coe_one.symm⟩

theorem sum {n : ℕ} {f : Fin n → EReal} (h : ∀ k, IsReal (f k)) : IsReal (∑ k, f k) := by
  choose r hr using h
  exact ⟨∑ k, r k, by rw [Finset.sum_congr rfl fun k _ => hr k, coe_sum]⟩

theorem sub_self {x : EReal} (hx : IsReal x) : x - x = 0 := by
  obtain ⟨r, rfl⟩ := hx
  rw [← EReal.coe_sub, _root_.sub_self, EReal.coe_zero]

theorem ne_bot {x : EReal} (hx : IsReal x) : x ≠ ⊥ := by
  obtain ⟨r, rfl⟩ := hx
  exact EReal.coe_ne_bot r

/-- A value whose absolute value is below `+∞`. -/
theorem of_abs {x : EReal} (h : max x (-x) < ⊤) : IsReal x := by
  induction x with
  | bot => simp at h
  | top => simp at h
  | coe r => exact ⟨r, rfl⟩

end IsReal

/-- The row length `1024` and the norm's `ε` as the reals they are. -/
theorem length_real : Ideal.ofBits .f32 1149239296#32 = ((1024 : ℝ) : EReal) := by
  simp only [Ideal.ofBits, Ideal.ieee]
  rw [if_neg (by decide), if_neg (by decide)]
  congr 1
  simp
  norm_num

theorem epsilon_real : ∃ r : ℝ, 0 < r ∧ Ideal.ofBits .f32 897988541#32 = (r : EReal) := by
  refine ⟨_, ?_, by simp [Ideal.ofBits, Ideal.ieee]; rfl⟩
  positivity

/-- The reciprocal root mean square of a finite row is finite. -/
theorem rms_real {n : ℕ} {x : Fin n → EReal} (hx : ∀ k, IsReal (x k)) :
    IsReal (Ideal.rsqrt (Ideal.div (∑ y, x y * x y) (Ideal.ofBits .f32 1149239296#32) + Ideal.ofBits .f32 897988541#32)) := by
  choose r hr using hx
  obtain ⟨ε, hε, he⟩ := epsilon_real
  have hs : ∑ y, x y * x y = ((∑ y, r y * r y : ℝ) : EReal) := by
    rw [coe_sum]
    exact Finset.sum_congr rfl fun y _ => by rw [hr y, EReal.coe_mul]
  have h0 : 0 ≤ ∑ y, r y * r y := Finset.sum_nonneg fun y _ => mul_self_nonneg (r y)
  rw [he, length_real, Ideal.div_coe (by norm_num), hs, ← EReal.coe_mul, ← EReal.coe_add]
  have hp : 0 < (∑ y, r y * r y) * (1 / 1024) + ε := by positivity
  refine ⟨(Real.sqrt ((∑ y, r y * r y) * (1 / 1024) + ε))⁻¹, ?_⟩
  show (if _ < _ then (⊥ : EReal) else if _ = _ then ⊤ else _) = _
  rw [if_neg (not_lt.mpr hp.le), if_neg hp.ne']

/-- The inputs the logits are computed from are finite. -/
structure Layer.Finite (A : Layer) : Prop where
  x : ∀ b n d, IsReal (A.x b n d)
  ml : ∀ b (k : Fin 3) d, k.val < 2 → IsReal (A.ml b k d)
  mc : ∀ (k : Fin 3) d, k.val < 2 → IsReal (A.mc k d)
  g : ∀ d, IsReal (A.g d)
  rw : ∀ y e, IsReal (A.rw y e)
  rb : ∀ e, IsReal (A.rb e)

namespace Layer.Finite
variable {A : Layer} (h : A.Finite)
include h

theorem modulation (b : Fin 2) (n : Fin 8448) (k : Fin 3) (d : Fin 1024) (hk : k.val < 2) : IsReal (A.modulation b n k d) := by
  unfold Layer.modulation
  split
  · exact h.mc k d hk
  · exact h.ml b k d hk

theorem row (b : Fin 2) (n : Fin 8448) (d : Fin 1024) : IsReal (A.row b n d) :=
  ((((h.x b n d).mul (rms_real (h.x b n))).mul (h.g d)).mul (IsReal.one.add (h.modulation b n 1 d (by decide)))).add (h.modulation b n 0 d (by decide))

theorem logit (b : Fin 2) (n : Fin 8448) (e : Fin 8) : IsReal (A.logit b n e) :=
  (IsReal.sum fun y => (h.row b n y).mul (h.rw y e)).add (h.rb e)

end Layer.Finite

/-- The softmax over the two greatest of a finite row of logits: its numerators, with the greater subtracted, over their sum. -/
theorem softmax_weight (L : Fin 8 → EReal) (hL : ∀ e, IsReal (L e)) (p q : Fin 8) (hp : First L p) (hs : Second L p q) (e : Fin 8) :
    (if p = e then 1 else 0) * Ideal.div (Ideal.exp (L p - max ⊥ (max (L p) (max (L q) ⊥)))) (Ideal.exp (L p - max ⊥ (max (L p) (max (L q) ⊥))) + Ideal.exp (L q - max ⊥ (max (L p) (max (L q) ⊥))))
      + (if q = e then 1 else 0) * Ideal.div (Ideal.exp (L q - max ⊥ (max (L p) (max (L q) ⊥)))) (Ideal.exp (L p - max ⊥ (max (L p) (max (L q) ⊥))) + Ideal.exp (L q - max ⊥ (max (L p) (max (L q) ⊥))))
      = weight L p q e := by
  have hm : max ⊥ (max (L p) (max (L q) ⊥)) = L p := by
    rw [max_eq_left (bot_le : ⊥ ≤ L q), max_eq_left (hp q).1, max_eq_right bot_le]
  rw [hm, (hL p).sub_self]
  obtain ⟨a, ha⟩ := hL p
  obtain ⟨b, hb⟩ := hL q
  have h1 : Ideal.exp 0 = 1 := by
    rw [← EReal.coe_zero, Ideal.exp_coe, Real.exp_zero, EReal.coe_one]
  have hE : Ideal.exp (L q - L p) = ((Real.exp (b - a) : ℝ) : EReal) := by rw [ha, hb, ← EReal.coe_sub, Ideal.exp_coe]
  have hpos : (1 + Real.exp (b - a) : ℝ) ≠ 0 := by positivity
  unfold weight
  rw [h1, hE, ← EReal.coe_one, ← EReal.coe_add, Ideal.div_coe hpos, Ideal.div_coe hpos]
  have hq := hs.1
  by_cases h : e = p
  · subst h
    rw [if_pos rfl, if_pos rfl, if_neg hq, EReal.coe_one, one_mul, zero_mul, add_zero]
  · rw [if_neg (Ne.symm h), if_neg h]
    by_cases h' : e = q
    · subst h'
      rw [if_pos rfl, if_pos rfl, EReal.coe_one, one_mul, one_mul, zero_mul, zero_add]
    · rw [if_neg (Ne.symm h'), if_neg h', zero_mul, zero_mul, add_zero]

end Cert.Moe
-- ==== Proof.Moe.Reference.lean ====
/-
  What the reference computes at a row, read off its operations: the layer's row for the two experts its stable sort puts first.
-/
module

public import proofs.«01_k».proof.Proof.Gen.ReferenceIdeal.Run
public import proofs.«01_k».proof.Proof.Moe.Finite
public import Idealize.ShloMosaic.Lib.WordCmp

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Moe.Reference

variable [hF : Cert.ReferenceIdeal.Facts]

/-- The modulation of every row, of the latents' and the context's. -/
def modulationOf (ml : FVec Ideal S2x3x1024 .f32) (mc : FVec Ideal S3x1024 .f32) : FVec Ideal S2x8448x3x1024 .f32 :=
  concatenate S2x8448x3x1024 1 [⟨S2x256x3x1024, (broadcastInDim S2x256x3x1024 ![0, 1, 2, 3] bcast_S1x1x3x1024_S2x256x3x1024_0_1_2_3 (broadcastInDim S1x1x3x1024 ![2, 3] bcast_S3x1024_S1x1x3x1024_2_3 mc))⟩, ⟨S2x8192x3x1024, (broadcastInDim S2x8192x3x1024 ![0, 1, 2, 3] bcast_S2x1x3x1024_S2x8192x3x1024_0_1_2_3 (broadcastInDim S2x1x3x1024 ![0, 2, 3] bcast_S2x3x1024_S2x1x3x1024_0_2_3 ml))⟩] concatenates_S2x256x3x1024_S2x8192x3x1024_S2x8448x3x1024_d1

theorem modulationOf_at (ml : FVec Ideal S2x3x1024 .f32) (mc : FVec Ideal S3x1024 .f32) (b : Fin 2) (n : Fin 8448) (k : Fin 3) (d : Fin 1024) :
    modulationOf ml mc (ix4 b n k d) = if n.val < 256 then mc (ix2 k d) else ml (ix3 b k d) := by
  pointwise [modulationOf]
  rfl

/-- The normed and modulated rows. -/
def rowsOf (x : FVec Ideal S2x8448x1024 .f32) (g : FVec Ideal S1024 .f32) (mm : FVec Ideal S2x8448x3x1024 .f32) : FVec Ideal S2x8448x1024 .f32 :=
  addf (mulf (mulf (mulf x (broadcastInDim S2x8448x1024 ![0, 1, 2] bcast_S2x8448x1_S2x8448x1024_0_1_2 (Host.rsqrt (addf (Host.divf (broadcastInDim S2x8448x1 ![0, 1] bcast_S2x8448_S2x8448x1_0_1 (Host.reduceAdd (mulf x x) (constant S_ .f32 0x00000000#32) reducesTo_S2x8448x1024_S2x8448_d2 h_S_)) (broadcastInDim S2x8448x1 ![] bcast_S_S2x8448x1 (constant S_ .f32 0x44800000#32))) (broadcastInDim S2x8448x1 ![] bcast_S_S2x8448x1 (constant S_ .f32 0x358637BD#32)))))) (broadcastInDim S2x8448x1024 ![0, 1, 2] bcast_S1x1x1024_S2x8448x1024_0_1_2 (broadcastInDim S1x1x1024 ![2] bcast_S1024_S1x1x1024_2 g))) (addf (broadcastInDim S2x8448x1024 ![] bcast_S_S2x8448x1024 (constant S_ .f32 0x3F800000#32)) (shapeCast _ (extractStridedSlice S2x8448x1x1024 ![0, 0, 1, 0] mm slices_S2x8448x3x1024_S2x8448x1x1024_0_0_1_0) shapeCasts_S2x8448x1x1024_S2x8448x1024))) (shapeCast _ (extractStridedSlice S2x8448x1x1024 ![0, 0, 0, 0] mm slices_S2x8448x3x1024_S2x8448x1x1024_0_0_0_0) shapeCasts_S2x8448x1x1024_S2x8448x1024)

theorem rowsOf_at (x : FVec Ideal S2x8448x1024 .f32) (g : FVec Ideal S1024 .f32) (mm : FVec Ideal S2x8448x3x1024 .f32) (b : Fin 2) (n : Fin 8448) (d : Fin 1024) :
    rowsOf x g mm (ix3 b n d)
      = x (ix3 b n d) * Ideal.rsqrt (Ideal.div (∑ y : Fin 1024, x (ix3 b n y) * x (ix3 b n y)) (Ideal.ofBits .f32 1149239296#32) + Ideal.ofBits .f32 897988541#32) * g (ix1 d)
        * (1 + mm (ix4 b n 1 d)) + mm (ix4 b n 0 d) := by
  pointwise [rowsOf]

/-- The logits. -/
def logitsOf (h : FVec Ideal S2x8448x1024 .f32) (w : FVec Ideal S1024x8 .f32) (u : FVec Ideal S8 .f32) : FVec Ideal S2x8448x8 .f32 :=
  addf (Host.dotGeneral dot_S2x8448x1024_S1024x8_S2x8448x8_2_0_01_1_n_n none h w) (broadcastInDim S2x8448x8 ![0, 1, 2] bcast_S1x1x8_S2x8448x8_0_1_2 (broadcastInDim S1x1x8 ![2] bcast_S8_S1x1x8_2 u))

theorem logitsOf_at (h : FVec Ideal S2x8448x1024 .f32) (w : FVec Ideal S1024x8 .f32) (u : FVec Ideal S8 .f32) (b : Fin 2) (n : Fin 8448) (e : Fin 8) :
    logitsOf h w u (ix3 b n e) = (∑ y : Fin 1024, h (ix3 b n y) * w (ix2 y e)) + u (ix1 e) := by
  pointwise [logitsOf]

/-- The position the stable sort of a row's logits puts at place `e`. -/
def place (l : FVec Ideal S2x8448x8 .f32) (b : Fin 2) (n : Fin 8448) (e : Fin 8) : Fin 8 := sortedFrom (greater fun e => l (ix3 b n e)) e

theorem along_eq (b : Fin 2) (n : Fin 8448) (e k : Fin 8) : Shape.Idx.along (s := S2x8448x8) (ix3 b n e) 2 k = ix3 b n k := by
  funext a
  fin_cases a <;> rfl

theorem sorts_by (l : FVec Ideal S2x8448x8 .f32) (b : Fin 2) (n : Fin 8448) (e : Fin 8) :
    sortedFrom (fun k k' : Fin 8 => FloatOps.cmpfTotal (F := Ideal) (φ := .f32) .gt (l (Shape.Idx.along (s := S2x8448x8) (ix3 b n e) 2 k)) (l (Shape.Idx.along (s := S2x8448x8) (ix3 b n e) 2 k')) == 1#1) e
      = place l b n e := by
  unfold place
  congr 1
  funext k k'
  rw [along_eq, along_eq]
  show (BitVec.ofBool (decide (l (ix3 b n k') < l (ix3 b n k))) == 1#1) = decide (l (ix3 b n k') < l (ix3 b n k))
  cases decide (l (ix3 b n k') < l (ix3 b n k)) <;> rfl

/-- The two greatest logits. -/
def values (l : FVec Ideal S2x8448x8 .f32) : FVec Ideal S2x8448x2 .f32 :=
  (Host.topK S2x8448x2 2 (FloatOps.cmpfTotal .gt) l sliceFits_S2x8448x8_S2x8448x2).1

/-- Their positions. -/
def places (l : FVec Ideal S2x8448x8 .f32) : IVec S2x8448x2 32 :=
  (Host.topK S2x8448x2 2 (FloatOps.cmpfTotal .gt) l sliceFits_S2x8448x8_S2x8448x2).2

theorem sliced (v : S2x8448x8.Idx → EReal) (b : Fin 2) (n : Fin 8448) (k : Fin 2) :
    extractStridedSlice S2x8448x2 (fun _ => 0) v sliceFits_S2x8448x8_S2x8448x2 (ix3 b n k) = v (ix3 b n ⟨k.val, by omega⟩) := by
  pointwise

theorem sliced_words (v : IVec S2x8448x8 32) (b : Fin 2) (n : Fin 8448) (k : Fin 2) :
    extractStridedSlice S2x8448x2 (fun _ => 0) v sliceFits_S2x8448x8_S2x8448x2 (ix3 b n k) = v (ix3 b n ⟨k.val, by omega⟩) := by
  pointwise

theorem values_at (l : FVec Ideal S2x8448x8 .f32) (b : Fin 2) (n : Fin 8448) (k : Fin 2) :
    values l (ix3 b n k) = l (ix3 b n (place l b n ⟨k.val, by omega⟩)) := by
  unfold values Host.topK
  dsimp only
  refine (sliced _ b n k).trans ?_
  rw [← sorts_by, ← along_eq b n ⟨k.val, by omega⟩ (sortedFrom _ _)]
  rfl

theorem places_at (l : FVec Ideal S2x8448x8 .f32) (b : Fin 2) (n : Fin 8448) (k : Fin 2) :
    places l (ix3 b n k) = BitVec.ofNat 32 (place l b n ⟨k.val, by omega⟩).val := by
  unfold places Host.topK
  dsimp only
  refine (sliced_words _ b n k).trans ?_
  rw [← sorts_by]
  rfl

/-- The numerators of the softmax over the two. -/
def numerators (v : FVec Ideal S2x8448x2 .f32) : FVec Ideal S2x8448x2 .f32 :=
  Host.exp (subf v (broadcastInDim S2x8448x2 ![0, 1, 2] bcast_S2x8448x1_S2x8448x2_0_1_2 (broadcastInDim S2x8448x1 ![0, 1] bcast_S2x8448_S2x8448x1_0_1 (maximumf (broadcastInDim S2x8448 ![] bcast_S_S2x8448 (constant S_ .f32 0xFF800000#32)) (Host.reduce FloatOps.maximumf v (constant S_ .f32 0xFF800000#32) reducesTo_S2x8448x2_S2x8448_d2 h_S_)))))

theorem numerators_at (v : FVec Ideal S2x8448x2 .f32) (b : Fin 2) (n : Fin 8448) (k : Fin 2) :
    numerators v (ix3 b n k) = Ideal.exp (v (ix3 b n k) - max (Ideal.ofBits .f32 4286578688#32) (Finset.univ.fold max (Ideal.ofBits .f32 4286578688#32) fun j : Fin 2 => v (ix3 b n j))) := by
  pointwise [numerators]

/-- Every expert's weight, of the positions and the numerators. -/
def weightsOf (p : IVec S2x8448x2 32) (v : FVec Ideal S2x8448x2 .f32) : FVec Ideal S2x8448x8 .f32 :=
  Host.reduceAdd (mulf (uitofp .f32 (cmpi .eq (broadcastInDim S2x8448x2x8 ![0, 1, 2, 3] bcast_S2x8448x2x1_S2x8448x2x8_0_1_2_3 (broadcastInDim S2x8448x2x1 ![0, 1, 2] bcast_S2x8448x2_S2x8448x2x1_0_1_2 p)) (broadcastInDim S2x8448x2x8 ![0, 1, 2, 3] bcast_S1x1x1x8_S2x8448x2x8_0_1_2_3 (iotaInDim S1x1x1x8 32 3)))) (broadcastInDim S2x8448x2x8 ![0, 1, 2, 3] bcast_S2x8448x2x1_S2x8448x2x8_0_1_2_3 (broadcastInDim S2x8448x2x1 ![0, 1, 2] bcast_S2x8448x2_S2x8448x2x1_0_1_2 (Host.divf v (broadcastInDim S2x8448x2 ![0, 1, 2] bcast_S2x8448x1_S2x8448x2_0_1_2 (broadcastInDim S2x8448x1 ![0, 1] bcast_S2x8448_S2x8448x1_0_1 (Host.reduceAdd v (constant S_ .f32 0x00000000#32) reducesTo_S2x8448x2_S2x8448_d2 h_S_))))))) (constant S_ .f32 0x00000000#32) reducesTo_S2x8448x2x8_S2x8448x8_d2 h_S_

theorem weightsOf_at (p : IVec S2x8448x2 32) (v : FVec Ideal S2x8448x2 .f32) (b : Fin 2) (n : Fin 8448) (e : Fin 8) :
    weightsOf p v (ix3 b n e) = ∑ k : Fin 2, FloatOps.uitofp (F := Ideal) .f32 (IntOp.cmpi .eq (p (ix3 b n k)) (BitVec.ofNat 32 e.val))
      * Ideal.div (v (ix3 b n k)) (∑ j : Fin 2, v (ix3 b n j)) := by
  pointwise [weightsOf]

/-- One expert's rows, of its three weights. -/
def expertOf (h : FVec Ideal S2x8448x1024 .f32) (u1 u3 : FVec Ideal S1024x1792 .f32) (u2 : FVec Ideal S1792x1024 .f32) : FVec Ideal S2x8448x1024 .f32 :=
  (Host.dotGeneral dot_S2x8448x1792_S1792x1024_S2x8448x1024_2_0_01_1_n_n none (mulf (mulf (Host.dotGeneral dot_S2x8448x1024_S1024x1792_S2x8448x1792_2_0_01_1_n_n none h u1) (Host.divf (broadcastInDim S2x8448x1792 ![] bcast_S_S2x8448x1792 (constant S_ .f32 0x3F800000#32)) (addf (broadcastInDim S2x8448x1792 ![] bcast_S_S2x8448x1792 (constant S_ .f32 0x3F800000#32)) (Host.exp (Host.negf (Host.dotGeneral dot_S2x8448x1024_S1024x1792_S2x8448x1792_2_0_01_1_n_n none h u1)))))) (Host.dotGeneral dot_S2x8448x1024_S1024x1792_S2x8448x1792_2_0_01_1_n_n none h u3)) u2)

theorem expertOf_at (h : FVec Ideal S2x8448x1024 .f32) (u1 u3 : FVec Ideal S1024x1792 .f32) (u2 : FVec Ideal S1792x1024 .f32) (b : Fin 2) (n : Fin 8448) (d : Fin 1024) :
    expertOf h u1 u3 u2 (ix3 b n d)
      = ∑ j : Fin 1792, gated (∑ y : Fin 1024, h (ix3 b n y) * u1 (ix2 y j)) (∑ y : Fin 1024, h (ix3 b n y) * u3 (ix2 y j)) * u2 (ix2 j d) := by
  pointwise [expertOf]
  rfl

/-- The layer's result. -/
def resultOf (x : FVec Ideal S2x8448x1024 .f32) (mm : FVec Ideal S2x8448x3x1024 .f32) (h : FVec Ideal S2x8448x1024 .f32) (cw : FVec Ideal S2x8448x8 .f32)
    (w1 w3 : FVec Ideal S8x1024x1792 .f32) (w2 : FVec Ideal S8x1792x1024 .f32) : FVec Ideal S2x8448x1024 .f32 :=
  addf x (mulf (shapeCast _ (extractStridedSlice S2x8448x1x1024 ![0, 0, 2, 0] mm slices_S2x8448x3x1024_S2x8448x1x1024_0_0_2_0) shapeCasts_S2x8448x1x1024_S2x8448x1024) (addf (addf (addf (addf (addf (addf (addf (mulf (broadcastInDim S2x8448x1024 ![0, 1, 2] bcast_S2x8448x1_S2x8448x1024_0_1_2 (extractStridedSlice S2x8448x1 ![0, 0, 0] cw slices_S2x8448x8_S2x8448x1_0_0_0)) (expertOf h (shapeCast _ (extractStridedSlice S1x1024x1792 ![0, 0, 0] w1 slices_S8x1024x1792_S1x1024x1792_0_0_0) shapeCasts_S1x1024x1792_S1024x1792) (shapeCast _ (extractStridedSlice S1x1024x1792 ![0, 0, 0] w3 slices_S8x1024x1792_S1x1024x1792_0_0_0) shapeCasts_S1x1024x1792_S1024x1792) (shapeCast _ (extractStridedSlice S1x1792x1024 ![0, 0, 0] w2 slices_S8x1792x1024_S1x1792x1024_0_0_0) shapeCasts_S1x1792x1024_S1792x1024))) (mulf (broadcastInDim S2x8448x1024 ![0, 1, 2] bcast_S2x8448x1_S2x8448x1024_0_1_2 (extractStridedSlice S2x8448x1 ![0, 0, 1] cw slices_S2x8448x8_S2x8448x1_0_0_1)) (expertOf h (shapeCast _ (extractStridedSlice S1x1024x1792 ![1, 0, 0] w1 slices_S8x1024x1792_S1x1024x1792_1_0_0) shapeCasts_S1x1024x1792_S1024x1792) (shapeCast _ (extractStridedSlice S1x1024x1792 ![1, 0, 0] w3 slices_S8x1024x1792_S1x1024x1792_1_0_0) shapeCasts_S1x1024x1792_S1024x1792) (shapeCast _ (extractStridedSlice S1x1792x1024 ![1, 0, 0] w2 slices_S8x1792x1024_S1x1792x1024_1_0_0) shapeCasts_S1x1792x1024_S1792x1024)))) (mulf (broadcastInDim S2x8448x1024 ![0, 1, 2] bcast_S2x8448x1_S2x8448x1024_0_1_2 (extractStridedSlice S2x8448x1 ![0, 0, 2] cw slices_S2x8448x8_S2x8448x1_0_0_2)) (expertOf h (shapeCast _ (extractStridedSlice S1x1024x1792 ![2, 0, 0] w1 slices_S8x1024x1792_S1x1024x1792_2_0_0) shapeCasts_S1x1024x1792_S1024x1792) (shapeCast _ (extractStridedSlice S1x1024x1792 ![2, 0, 0] w3 slices_S8x1024x1792_S1x1024x1792_2_0_0) shapeCasts_S1x1024x1792_S1024x1792) (shapeCast _ (extractStridedSlice S1x1792x1024 ![2, 0, 0] w2 slices_S8x1792x1024_S1x1792x1024_2_0_0) shapeCasts_S1x1792x1024_S1792x1024)))) (mulf (broadcastInDim S2x8448x1024 ![0, 1, 2] bcast_S2x8448x1_S2x8448x1024_0_1_2 (extractStridedSlice S2x8448x1 ![0, 0, 3] cw slices_S2x8448x8_S2x8448x1_0_0_3)) (expertOf h (shapeCast _ (extractStridedSlice S1x1024x1792 ![3, 0, 0] w1 slices_S8x1024x1792_S1x1024x1792_3_0_0) shapeCasts_S1x1024x1792_S1024x1792) (shapeCast _ (extractStridedSlice S1x1024x1792 ![3, 0, 0] w3 slices_S8x1024x1792_S1x1024x1792_3_0_0) shapeCasts_S1x1024x1792_S1024x1792) (shapeCast _ (extractStridedSlice S1x1792x1024 ![3, 0, 0] w2 slices_S8x1792x1024_S1x1792x1024_3_0_0) shapeCasts_S1x1792x1024_S1792x1024)))) (mulf (broadcastInDim S2x8448x1024 ![0, 1, 2] bcast_S2x8448x1_S2x8448x1024_0_1_2 (extractStridedSlice S2x8448x1 ![0, 0, 4] cw slices_S2x8448x8_S2x8448x1_0_0_4)) (expertOf h (shapeCast _ (extractStridedSlice S1x1024x1792 ![4, 0, 0] w1 slices_S8x1024x1792_S1x1024x1792_4_0_0) shapeCasts_S1x1024x1792_S1024x1792) (shapeCast _ (extractStridedSlice S1x1024x1792 ![4, 0, 0] w3 slices_S8x1024x1792_S1x1024x1792_4_0_0) shapeCasts_S1x1024x1792_S1024x1792) (shapeCast _ (extractStridedSlice S1x1792x1024 ![4, 0, 0] w2 slices_S8x1792x1024_S1x1792x1024_4_0_0) shapeCasts_S1x1792x1024_S1792x1024)))) (mulf (broadcastInDim S2x8448x1024 ![0, 1, 2] bcast_S2x8448x1_S2x8448x1024_0_1_2 (extractStridedSlice S2x8448x1 ![0, 0, 5] cw slices_S2x8448x8_S2x8448x1_0_0_5)) (expertOf h (shapeCast _ (extractStridedSlice S1x1024x1792 ![5, 0, 0] w1 slices_S8x1024x1792_S1x1024x1792_5_0_0) shapeCasts_S1x1024x1792_S1024x1792) (shapeCast _ (extractStridedSlice S1x1024x1792 ![5, 0, 0] w3 slices_S8x1024x1792_S1x1024x1792_5_0_0) shapeCasts_S1x1024x1792_S1024x1792) (shapeCast _ (extractStridedSlice S1x1792x1024 ![5, 0, 0] w2 slices_S8x1792x1024_S1x1792x1024_5_0_0) shapeCasts_S1x1792x1024_S1792x1024)))) (mulf (broadcastInDim S2x8448x1024 ![0, 1, 2] bcast_S2x8448x1_S2x8448x1024_0_1_2 (extractStridedSlice S2x8448x1 ![0, 0, 6] cw slices_S2x8448x8_S2x8448x1_0_0_6)) (expertOf h (shapeCast _ (extractStridedSlice S1x1024x1792 ![6, 0, 0] w1 slices_S8x1024x1792_S1x1024x1792_6_0_0) shapeCasts_S1x1024x1792_S1024x1792) (shapeCast _ (extractStridedSlice S1x1024x1792 ![6, 0, 0] w3 slices_S8x1024x1792_S1x1024x1792_6_0_0) shapeCasts_S1x1024x1792_S1024x1792) (shapeCast _ (extractStridedSlice S1x1792x1024 ![6, 0, 0] w2 slices_S8x1792x1024_S1x1792x1024_6_0_0) shapeCasts_S1x1792x1024_S1792x1024)))) (mulf (broadcastInDim S2x8448x1024 ![0, 1, 2] bcast_S2x8448x1_S2x8448x1024_0_1_2 (extractStridedSlice S2x8448x1 ![0, 0, 7] cw slices_S2x8448x8_S2x8448x1_0_0_7)) (expertOf h (shapeCast _ (extractStridedSlice S1x1024x1792 ![7, 0, 0] w1 slices_S8x1024x1792_S1x1024x1792_7_0_0) shapeCasts_S1x1024x1792_S1024x1792) (shapeCast _ (extractStridedSlice S1x1024x1792 ![7, 0, 0] w3 slices_S8x1024x1792_S1x1024x1792_7_0_0) shapeCasts_S1x1024x1792_S1024x1792) (shapeCast _ (extractStridedSlice S1x1792x1024 ![7, 0, 0] w2 slices_S8x1792x1024_S1x1792x1024_7_0_0) shapeCasts_S1x1792x1024_S1792x1024)))))

theorem resultOf_at (x : FVec Ideal S2x8448x1024 .f32) (mm : FVec Ideal S2x8448x3x1024 .f32) (h : FVec Ideal S2x8448x1024 .f32) (cw : FVec Ideal S2x8448x8 .f32)
    (w1 w3 : FVec Ideal S8x1024x1792 .f32) (w2 : FVec Ideal S8x1792x1024 .f32) (b : Fin 2) (n : Fin 8448) (d : Fin 1024) :
    resultOf x mm h cw w1 w3 w2 (ix3 b n d)
      = x (ix3 b n d) + mm (ix4 b n 2 d) * ∑ e : Fin 8, cw (ix3 b n e)
          * ∑ j : Fin 1792, gated (∑ y : Fin 1024, h (ix3 b n y) * w1 (ix3 e y j)) (∑ y : Fin 1024, h (ix3 b n y) * w3 (ix3 e y j)) * w2 (ix3 e j d) := by
  rw [Fin.sum_univ_eight]
  pointwise [resultOf, expertOf_at]

/-- The rows, the logits and the result as the reference's run has them. -/
theorem rows_eq (V0 : Valuation τ sig (Elt Ideal)) : res_main_v27 V0 = rowsOf (V0 (Proc.devRef .tc main_arg0)) (V0 (Proc.devRef .tc main_arg3))
    (modulationOf (V0 (Proc.devRef .tc main_arg1)) (V0 (Proc.devRef .tc main_arg2))) := rfl

theorem logits_eq (V0 : Valuation τ sig (Elt Ideal)) : res_main_v31 V0 = logitsOf (res_main_v27 V0) (V0 (Proc.devRef .tc main_arg4)) (V0 (Proc.devRef .tc main_arg5)) := rfl

theorem weights_eq (V0 : Valuation τ sig (Elt Ideal)) : res_main_v47 V0 = weightsOf (places (res_main_v31 V0)) (numerators (values (res_main_v31 V0))) := rfl

/-- The result array, of the reference's arguments. -/
def result (V0 : Valuation τ sig (Elt Ideal)) : FVec Ideal S2x8448x1024 .f32 :=
  resultOf (V0 (Proc.devRef .tc main_arg0)) (res_main_v4 V0) (res_main_v27 V0) (res_main_v47 V0) (V0 (Proc.devRef .tc main_arg6)) (V0 (Proc.devRef .tc main_arg7)) (V0 (Proc.devRef .tc main_arg8))

/-- The reference's argument arrays as the layer's arguments. -/
def layer (V0 : Valuation τ sig (Elt Ideal)) : Layer where
  x b n d := V0 (Proc.devRef .tc main_arg0) (ix3 b n d)
  ml b k d := V0 (Proc.devRef .tc main_arg1) (ix3 b k d)
  mc k d := V0 (Proc.devRef .tc main_arg2) (ix2 k d)
  g d := V0 (Proc.devRef .tc main_arg3) (ix1 d)
  rw y e := V0 (Proc.devRef .tc main_arg4) (ix2 y e)
  rb e := V0 (Proc.devRef .tc main_arg5) (ix1 e)
  w1 e y j := V0 (Proc.devRef .tc main_arg6) (ix3 e y j)
  w3 e y j := V0 (Proc.devRef .tc main_arg7) (ix3 e y j)
  w2 e j d := V0 (Proc.devRef .tc main_arg8) (ix3 e j d)

section read
variable (V0 : Valuation τ sig (Elt Ideal)) (b : Fin 2) (n : Fin 8448)

theorem modulation_at (k : Fin 3) (d : Fin 1024) : res_main_v4 V0 (ix4 b n k d) = (layer V0).modulation b n k d :=
  modulationOf_at (V0 (Proc.devRef .tc main_arg1)) (V0 (Proc.devRef .tc main_arg2)) b n k d

theorem row_at (d : Fin 1024) : res_main_v27 V0 (ix3 b n d) = (layer V0).row b n d := by
  rw [rows_eq, rowsOf_at]
  unfold Layer.row
  rw [← modulation_at, ← modulation_at]
  rfl

theorem logit_at (e : Fin 8) : res_main_v31 V0 (ix3 b n e) = (layer V0).logit b n e := by
  rw [logits_eq, logitsOf_at]
  unfold Layer.logit
  simp only [row_at]
  rfl

/-- The two experts the sort puts first. -/
theorem first_place (e : Fin 8) (he : e.val = 0) : First ((layer V0).logit b n) (place (res_main_v31 V0) b n e) := by
  have h : (fun e => res_main_v31 V0 (ix3 b n e)) = (layer V0).logit b n := funext fun e => logit_at V0 b n e
  unfold place
  rw [h]
  exact first_sortedFrom _ e he

theorem second_place (e k : Fin 8) (he : e.val = 0) (hk : k.val = 1) :
    Second ((layer V0).logit b n) (place (res_main_v31 V0) b n e) (place (res_main_v31 V0) b n k) := by
  have h : (fun e => res_main_v31 V0 (ix3 b n e)) = (layer V0).logit b n := funext fun e => logit_at V0 b n e
  unfold place
  rw [h]
  exact second_sortedFrom _ e k he hk

/-- A comparison of two positions, as the number it is converted to. -/
theorem hit (p e : Fin 8) : FloatOps.uitofp (F := Ideal) .f32 (IntOp.cmpi .eq (BitVec.ofNat 32 p.val) (BitVec.ofNat 32 e.val)) = if p = e then (1 : EReal) else 0 := by
  rw [WordCmp.cmpi_eq_ofNat (by omega) (by omega)]
  show (((BitVec.ofBool (decide (p.val = e.val))).toNat : ℝ) : EReal) = _
  by_cases h : p = e
  · rw [if_pos h, decide_eq_true (congrArg Fin.val h)]
    simp
  · rw [if_neg h, decide_eq_false fun k => h (Fin.ext k)]
    simp

theorem weight_at (hA : (layer V0).Finite) (e : Fin 8) :
    res_main_v47 V0 (ix3 b n e) = weight ((layer V0).logit b n) (place (res_main_v31 V0) b n 0) (place (res_main_v31 V0) b n 1) e := by
  rw [← softmax_weight _ (hA.logit b n) _ _ (first_place V0 b n 0 rfl) (second_place V0 b n 0 1 rfl rfl) e]
  have v0 : values (res_main_v31 V0) (ix3 b n 0) = (layer V0).logit b n (place (res_main_v31 V0) b n 0) := (values_at _ b n 0).trans (logit_at V0 b n _)
  have v1 : values (res_main_v31 V0) (ix3 b n 1) = (layer V0).logit b n (place (res_main_v31 V0) b n 1) := (values_at _ b n 1).trans (logit_at V0 b n _)
  have p0 : places (res_main_v31 V0) (ix3 b n 0) = BitVec.ofNat 32 (place (res_main_v31 V0) b n 0).val := places_at _ b n 0
  have p1 : places (res_main_v31 V0) (ix3 b n 1) = BitVec.ofNat 32 (place (res_main_v31 V0) b n 1).val := places_at _ b n 1
  have hf : (Finset.univ.fold max (⊥ : EReal) fun j : Fin 2 => values (res_main_v31 V0) (ix3 b n j))
      = max ((layer V0).logit b n (place (res_main_v31 V0) b n 0)) (max ((layer V0).logit b n (place (res_main_v31 V0) b n 1)) ⊥) := by
    rw [← v0, ← v1]
    rfl
  have hbot : Ideal.ofBits .f32 4286578688#32 = ⊥ := by simp [Ideal.ofBits, Ideal.ieee]
  rw [weights_eq, weightsOf_at, Fin.sum_univ_two, Fin.sum_univ_two, numerators_at, numerators_at, p0, p1, hit, hit, hbot, hf, v0, v1]

/-- The reference's row, for the two experts its stable sort puts first. -/
theorem out_at (hA : (layer V0).Finite) (d : Fin 1024) :
    result V0 (ix3 b n d)
      = (layer V0).out b n (place (res_main_v31 V0) b n 0) (place (res_main_v31 V0) b n 1) d := by
  unfold result
  rw [resultOf_at, modulation_at]
  unfold Layer.out
  simp only [weight_at V0 b n hA, row_at]
  rfl

end read

end Cert.Moe.Reference
-- ==== Proof.Moe.Equation.lean ====
/-
  The kernel's result array is the reference's: at every row both are the layer's row for the two greatest logits.
-/
module

public import proofs.«01_k».proof.Proof.Moe.Sweep
public import proofs.«01_k».proof.Proof.Moe.Reference

@[expose] public section

set_option maxRecDepth 16384

noncomputable section

open Idealize.ShloMosaic Idealize.ShloMosaic.TcCoe Idealize.SL.Sem

namespace Cert.Moe

/-- Finite inputs are routable. -/
theorem routable {A : Layer} (h : A.Finite) (b : Fin 2) (n : Fin 8448) : Routable A b n :=
  ⟨fun y => (h.row b n y).sub_self, fun y e => (h.rw y e).sub_self, fun e => (h.logit b n e).ne_bot⟩

section kernel
open Cert.KernelIdeal Cert.KernelIdeal.Gen Cert.KernelIdeal.Value
variable [hF : Cert.KernelIdeal.Facts]
variable (m : (ℓ : Loc nD τ sig) → Buf (Elt Ideal) ℓ)

/-- The kernel's result array at a row, for the row's two greatest logits. -/
theorem array_at (c : Dev nD) (hA : (layer m c).Finite) (b : Fin 2) (n : Fin 8448) (d : Fin 1024) (p q : Fin 8)
    (hp : First ((layer m c).logit b n) p) (hq : Second ((layer m c).logit b n) p q) :
    G9 m c (ix3 b n d) = (layer m c).out b n p q d := by
  have hr : run9Of (ix3 b n d) = 11 * (b.val / 1 - 0) + 1 * (n.val / 768 - 0) + 1 * (d.val / 1024 - 0) := rfl
  have ht : pt9Of (ix3 b n d) = 16 * run9Of (ix3 b n d) + 15 := rfl
  have hlt : pt9Of (ix3 b n d) < cfg0.N := by
    rw [show cfg0.N = 352 from N_0]
    omega
  have hn : n.val % 768 < 768 := Nat.mod_lt _ (by omega)
  have hl : loc9Of (ix3 b n d) = ix3 (0 : Fin 1) (⟨n.val % 768, hn⟩ : Fin 768) d := by
    funext a
    refine Fin.ext ?_
    fin_cases a
    · show b.val % 1 = 0
      omega
    · rfl
    · show d.val % 1024 = d.val
      exact Nat.mod_eq_of_lt d.isLt
  unfold G9
  rw [dif_pos hlt, ← outsAt0_sweep m c _ hlt, hl]
  refine written m c ⟨n.val % 768, hn⟩ b n p q (routable hA b n) hp hq ⟨pt9Of (ix3 b n d), hlt⟩ ?_ ⟨?_, ?_⟩ 0 d
  · show pt9Of (ix3 b n d) % 16 = 15
    omega
  · show b.val = pt9Of (ix3 b n d) / 176
    omega
  · show n.val = pt9Of (ix3 b n d) / 16 % 11 * 768 + n.val % 768
    omega

end kernel

/-- The two result arrays are one, on equal finite arguments. -/
theorem arrays_eq [hK : Cert.KernelIdeal.Facts] [hR : Cert.ReferenceIdeal.Facts] (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD) (hA : (layer m c).Finite)
    (h : Reference.layer V0 = layer m c) (b : Fin 2) (n : Fin 8448) (d : Fin 1024) :
    Reference.result V0 (ix3 b n d) = Cert.KernelIdeal.Value.G9 m c (ix3 b n d) := by
  rw [Reference.out_at V0 b n (h ▸ hA) d]
  have hp := Reference.first_place V0 b n 0 rfl
  have hq := Reference.second_place V0 b n 0 1 rfl rfl
  rw [h] at hp hq ⊢
  exact (array_at m c hA b n d _ _ hp hq).symm

end Cert.Moe
-- ==== Proof.Moe.Pre.lean ====
/-
  The precondition read back: the arrays the routing logits are computed from hold no infinity.
-/
module

public import proofs.«01_k».proof.Pre_finite_router_inputs
public import proofs.«01_k».proof.Proof.Moe.Finite
public import Idealize.ShloMosaic.Lib.ReduceAll
public import Idealize.ShloMosaic.Lib.Affine

@[expose] public section

set_option maxRecDepth 16384

noncomputable section

open Idealize.ShloMosaic Idealize.ShloMosaic.TcCoe Idealize.SL.Sem
open Cert.Pre_finite_router_inputs

namespace Cert.Moe.Pre

theorem facts : Cert.Pre_finite_router_inputs.Facts where
  bcast_S_S2x8448x1024 := by decide
  reducesTo_S2x8448x1024_S_d0_1_2 := by decide
  h_S_ := by decide
  slices_S2x3x1024_S2x2x1024_0_0_0 := by decide
  bcast_S_S2x2x1024 := by decide
  reducesTo_S2x2x1024_S_d0_1_2 := by decide
  slices_S3x1024_S2x1024_0_0 := by decide
  bcast_S_S2x1024 := by decide
  reducesTo_S2x1024_S_d0_1 := by decide
  bcast_S_S1024 := by decide
  reducesTo_S1024_S_d0 := by decide
  bcast_S_S1024x8 := by decide
  reducesTo_S1024x8_S_d0_1 := by decide
  bcast_S_S8 := by decide
  reducesTo_S8_S_d0 := by decide

variable [hF : Cert.Pre_finite_router_inputs.Facts]

instance : Subsingleton S_.Idx := ⟨fun a b => funext fun k => k.elim0⟩

theorem infinity : Ideal.ofBits .f32 2139095040#32 = ⊤ := by simp [Ideal.ofBits, Ideal.ieee]

/-- One array's "every absolute value is below `+∞`", read at an index. -/
theorem entry {s : Shape} {axes : List (Fin s.rank)} (x : FVec Ideal s .f32) (hb : S_.BroadcastsInDim s (![] : Fin 0 → Fin s.rank)) (hr : s.ReducesTo axes S_) (h0 : 0 < S_.numel) (k : S_.Idx)
    (h : Host.reduce IntOp.andi (cmpf .olt (Host.absf x) (broadcastInDim s ![] hb (constant (F := Ideal) S_ .f32 0x7F800000#32))) (constantI S_ 1 1#1) hr h0 k = 1#1) (i : s.Idx) : IsReal (x i) := by
  have e := Host.reduce_andi_all _ _ hr h0 k h i
  refine IsReal.of_abs ?_
  have e' : BitVec.ofBool (decide (max (x i) (-(x i)) < Ideal.ofBits .f32 2139095040#32)) = 1#1 := e
  rw [infinity] at e'
  by_contra hn
  rw [decide_eq_false hn] at e'
  exact absurd e' (by decide)

/-- What the precondition says. -/
theorem finite (A : Layer) (x : FVec Ideal S2x8448x1024 .f32) (ml : FVec Ideal S2x3x1024 .f32) (mc : FVec Ideal S3x1024 .f32) (g : FVec Ideal S1024 .f32)
    (w : FVec Ideal S1024x8 .f32) (u : FVec Ideal S8 .f32) (w1 w3 : FVec Ideal S8x1024x1792 .f32) (w2 : FVec Ideal S8x1792x1024 .f32)
    (hx : ∀ b n d, A.x b n d = x (ix3 b n d)) (hml : ∀ b k d, A.ml b k d = ml (ix3 b k d)) (hmc : ∀ k d, A.mc k d = mc (ix2 k d)) (hg : ∀ d, A.g d = g (ix1 d))
    (hw : ∀ y e, A.rw y e = w (ix2 y e)) (hu : ∀ e, A.rb e = u (ix1 e)) (k : S_.Idx)
    (h : Cert.Pre_finite_router_inputs.fn (F := Ideal) x ml mc g w u w1 w3 w2 k = 1#1) : A.Finite := by
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h1, h2⟩ := IntOp.andi_eq_one.mp h
  refine ⟨fun b n d => ?_, fun b k' d hk => ?_, fun k' d hk => ?_, fun d => ?_, fun y e => ?_, fun e => ?_⟩
  · rw [hx]; exact entry _ _ _ _ k h1 (ix3 b n d)
  · rw [hml]
    have e := entry _ _ _ _ k h2 (ix3 b ⟨k'.val, hk⟩ d)
    have r : extractStridedSlice S2x2x1024 ![0, 0, 0] ml hF.slices_S2x3x1024_S2x2x1024_0_0_0 (ix3 b ⟨k'.val, hk⟩ d) = ml (ix3 b k' d) := by pointwise
    rw [← r]
    exact e
  · rw [hmc]
    have e := entry _ _ _ _ k h3 (ix2 ⟨k'.val, hk⟩ d)
    have r : extractStridedSlice S2x1024 ![0, 0] mc hF.slices_S3x1024_S2x1024_0_0 (ix2 ⟨k'.val, hk⟩ d) = mc (ix2 k' d) := by pointwise
    rw [← r]
    exact e
  · rw [hg]; exact entry _ _ _ _ k h4 (ix1 d)
  · rw [hw]; exact entry _ _ _ _ k h5 (ix2 y e)
  · rw [hu]; exact entry _ _ _ _ k h6 (ix1 e)

end Cert.Moe.Pre
-- ==== Proof.Ffn.Spec.lean ====
/-
  The dense gated feed-forward layer as mathematics on the extended reals.
-/
module

public import proofs.«01_k».proof.Proof.Moe.Spec

@[expose] public section

set_option maxRecDepth 16384

noncomputable section

open Idealize.ShloMosaic Idealize.ShloMosaic.TcCoe Idealize.SL.Sem

namespace Cert.Ffn

open Cert.Moe (gated)

/-- The layer's arguments: the rows, the latents' and the context's modulation (shift, scale, gate), the norm's gain, the three weights. -/
structure Layer where
  x : Fin 2 → Fin 8448 → Fin 1024 → EReal
  ml : Fin 2 → Fin 3 → Fin 1024 → EReal
  mc : Fin 3 → Fin 1024 → EReal
  g : Fin 1024 → EReal
  w1 : Fin 1024 → Fin 2816 → EReal
  w3 : Fin 1024 → Fin 2816 → EReal
  w2 : Fin 2816 → Fin 1024 → EReal

namespace Layer
variable (A : Layer) (b : Fin 2) (n : Fin 8448)

/-- Row `k` of the modulation at a row: the context's on the first 256 rows, the latents' after them. -/
def modulation (k : Fin 3) (d : Fin 1024) : EReal := if n.val < 256 then A.mc k d else A.ml b k d

/-- The normed and modulated row. -/
def row (d : Fin 1024) : EReal :=
  A.x b n d * Ideal.rsqrt (Ideal.div (∑ y : Fin 1024, A.x b n y * A.x b n y) (Ideal.ofBits .f32 1149239296#32) + Ideal.ofBits .f32 897988541#32) * A.g d
    * (1 + A.modulation b n 1 d) + A.modulation b n 0 d

/-- A column of the hidden layer. -/
def hidden (j : Fin 2816) : EReal := gated (∑ y : Fin 1024, A.row b n y * A.w1 y j) (∑ y : Fin 1024, A.row b n y * A.w3 y j)

/-- The layer's row. -/
def out (d : Fin 1024) : EReal := A.x b n d + A.modulation b n 2 d * ∑ j : Fin 2816, A.hidden b n j * A.w2 j d

/-- Half `k` of the sum over the hidden columns. -/
def half (k : Fin 2) (d : Fin 1024) : EReal :=
  ∑ x : Fin 1408, A.hidden b n ⟨k.val * 1408 + x.val, by omega⟩ * A.w2 ⟨k.val * 1408 + x.val, by omega⟩ d

theorem halves (d : Fin 1024) : A.half b n 0 d + A.half b n 1 d = ∑ j : Fin 2816, A.hidden b n j * A.w2 j d := by
  unfold half
  rw [← Fin.sum_univ_two (f := fun k : Fin 2 => ∑ x : Fin 1408, A.hidden b n ⟨k.val * 1408 + x.val, by omega⟩ * A.w2 ⟨k.val * 1408 + x.val, by omega⟩ d)]
  exact (Fin.sum_univ_tiles 2 1408 rfl (fun j : Fin 2816 => A.hidden b n j * A.w2 j d)).symm

end Layer

end Cert.Ffn
-- ==== Proof.Ffn.Blocks.lean ====
/-
  Where each window's block lies at each grid point, and what the input blocks hold over the argument arrays.
-/
module

public import proofs.«01_k».proof.Proof.Gen.Kernel2Ideal.Value
public import proofs.«01_k».proof.Proof.Ffn.Spec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.Kernel2Ideal Cert.Kernel2Ideal.Gen

namespace Cert.Ffn

/-- Point `t` works on batch `t / 22`, row block `t / 2 % 11` and half `t % 2` of the hidden layer. -/
theorem idx : ∀ t : Fin cfg0.N,
    win0_0.index t = ![t.val / 22, t.val / 2 % 11, 0] ∧ win0_1.index t = ![t.val / 22, 0, 0] ∧ win0_2.index t = ![0, 0]
    ∧ win0_3.index t = ![0, 0] ∧ win0_4.index t = ![0, t.val % 2] ∧ win0_5.index t = ![0, t.val % 2] ∧ win0_6.index t = ![t.val % 2, 0]
    ∧ (grid0.coords t 1).val = t.val / 2 % 11 :=
  (by decide +kernel : ∀ t : Fin grid0.N, _)

variable [hF : Cert.Kernel2Ideal.Facts]
variable (m : (ℓ : Loc nD τ sig) → Buf (Elt Ideal) ℓ)

/-- The rows. -/
theorem blk0 (c : Dev nD) (t : Fin cfg0.N) (z : Fin 1) (r : Fin 768) (d : Fin 1024) (b : Fin 2) (n : Fin 8448)
    (hb : b.val = t.val / 22) (hn : n.val = t.val / 2 % 11 * 768 + r.val) :
    iblk m c 0 t (ix3 z r d) = m ((c : Thread nD τ).loc main_arg0) (ix3 b n d) := by
  blk_ext [iblk, V, idx t]

/-- The norm's gain. -/
theorem blk3 (c : Dev nD) (t : Fin cfg0.N) (z : Fin 1) (d : Fin 1024) :
    iblk m c 3 t (ix2 z d) = m ((c : Thread nD τ).loc main_arg3) (ix1 d) := by
  blk_simp [iblk, idx t]
  entry_read
  have hi : (((View.whole main_v0).slice (win0_3.rect t)).emb (ix2 z d) : S1x1024.Idx) = ix2 z d := by blk_ext [idx t]
  refine (congrArg _ hi).trans ?_
  pointwise

/-- The first weight. -/
theorem blk4 (c : Dev nD) (t : Fin cfg0.N) (y : Fin 1024) (x : Fin 1408) (j : Fin 2816) (hj : j.val = t.val % 2 * 1408 + x.val) :
    iblk m c 4 t (ix2 y x) = m ((c : Thread nD τ).loc main_arg4) (ix2 y j) := by
  blk_simp [iblk, idx t]
  entry_read
  show (m (c, Proc.tc.devRef main_arg4) _ : EReal) = _
  blk_ext [idx t]

/-- The gate weight. -/
theorem blk5 (c : Dev nD) (t : Fin cfg0.N) (y : Fin 1024) (x : Fin 1408) (j : Fin 2816) (hj : j.val = t.val % 2 * 1408 + x.val) :
    iblk m c 5 t (ix2 y x) = m ((c : Thread nD τ).loc main_arg5) (ix2 y j) := by
  blk_simp [iblk, idx t]
  entry_read
  show (m (c, Proc.tc.devRef main_arg5) _ : EReal) = _
  blk_ext [idx t]

/-- The second weight. -/
theorem blk6 (c : Dev nD) (t : Fin cfg0.N) (x : Fin 1408) (d : Fin 1024) (j : Fin 2816) (hj : j.val = t.val % 2 * 1408 + x.val) :
    iblk m c 6 t (ix2 x d) = m ((c : Thread nD τ).loc main_arg6) (ix2 j d) := by
  blk_simp [iblk, idx t]
  entry_read
  show (m (c, Proc.tc.devRef main_arg6) _ : EReal) = _
  blk_ext [idx t]

/-- Row `k` of the latents' modulation. -/
theorem ld1 (c : Dev nD) (t : Fin cfg0.N) (k : ℕ) (hk : k < 3) (inb) (d : Fin 1024) (b : Fin 2) (hb : b.val = t.val / 22) :
    View.ld (iblk m c 1 t) (Rect.unit (s := S1x3x1024) ![0, k, 0] ![1, 1, 1024] inb) (ix3 0 0 d) = m ((c : Thread nD τ).loc main_arg1) (ix3 b ⟨k, hk⟩ d) := by
  rw [View.ld_apply]
  blk_ext [iblk, V, idx t]
  · show k + 1 * 0 = k; omega
  · show 0 + 1 * d.val = d.val; omega

/-- Row `k` of the context's modulation. -/
theorem ld2 (c : Dev nD) (t : Fin cfg0.N) (k : ℕ) (hk : k < 3) (inb) (d : Fin 1024) :
    View.ld (iblk m c 2 t) (Rect.unit (s := S3x1024) ![k, 0] ![1, 1024] inb) (ix2 0 d) = m ((c : Thread nD τ).loc main_arg2) (ix2 ⟨k, hk⟩ d) := by
  rw [View.ld_apply]
  blk_ext [iblk, V, idx t]
  · show k + 1 * 0 = k; omega
  · show 0 + 1 * d.val = d.val; omega

end Cert.Ffn
-- ==== Proof.Ffn.Payload.lean ====
/-
  What each pure value of the dense feed-forward body is at an index, over the extended reals.
-/
module

public import proofs.«01_k».proof.Proof.Gen.Kernel2Ideal.Skeleton
public import proofs.«01_k».proof.Proof.Ffn.Spec
public import Idealize.ShloMosaic.Lib.WordCmp

@[expose] public section

set_option maxRecDepth 16384

noncomputable section

open Idealize.ShloMosaic Idealize.ShloMosaic.TcCoe Idealize.SL.Sem
open Cert.Kernel2Ideal Cert.Kernel2Ideal.Gen

namespace Cert.Ffn

open Cert.Moe (gated)

variable [hF : Cert.Kernel2Ideal.Facts]

/-- Whether row `r` of row block `a` is a context row, as the kernel's bit. -/
def ctxBit (a : BitVec 32) (r : ℕ) : BitVec 1 := IntOp.cmpi .slt (IntOp.addi (Scalar.muli a 768#32) (BitVec.ofNat 32 r)) 256#32

/-- Row blocks are numbered below 11, so the bit is the comparison of naturals. -/
theorem ctxBit_ofNat (b r : ℕ) (hb : b < 11) (hr : r < 768) : ctxBit (BitVec.ofNat 32 b) r = BitVec.ofBool (decide (768 * b + r < 256)) := by
  unfold ctxBit
  have e : IntOp.addi (Scalar.muli (BitVec.ofNat 32 b) 768#32) (BitVec.ofNat 32 r) = BitVec.ofNat 32 (768 * b + r) := by
    show BitVec.ofNat 32 b * 768#32 + BitVec.ofNat 32 r = _
    apply BitVec.eq_of_toNat_eq
    simp only [BitVec.toNat_add, BitVec.toNat_mul, BitVec.toNat_ofNat]
    omega
  rw [e, show (256#32 : BitVec 32) = BitVec.ofNat 32 256 from rfl, WordCmp.cmpi_slt_ofNat (by omega) (by omega)]

/-- What a point adds to the accumulator: half of the hidden columns through the second weight. -/
theorem tile_at (h : Vec Ideal S768x1024 .bf16) (w1 w3 : Vec Ideal S1024x1408 .bf16) (ac : Vec Ideal S768x1024 .f32)
    (w2 : Vec Ideal S1408x1024 .bf16) (r : Fin 768) (d : Fin 1024) :
    k0_pay3 (F := Ideal) h w1 w3 ac w2 (ix2 r d) = ac (ix2 r d)
      + ∑ x : Fin 1408, gated (∑ y : Fin 1024, h (ix2 r y) * w1 (ix2 y x)) (∑ y : Fin 1024, h (ix2 r y) * w3 (ix2 y x)) * w2 (ix2 x d) := by
  pointwise [k0_pay3]
  rfl

/-- The write-out: the residual plus the gate times the accumulated row. -/
theorem written_at (i : grid0.Coords) (gc : Vec Ideal S1x1024 .f32) (gl : Vec Ideal S1x1x1024 .f32) (x : Vec Ideal S1x768x1024 .f32)
    (ac : Vec Ideal S768x1024 .f32) (z : Fin 1) (r : Fin 768) (d : Fin 1024) :
    k0_pay4 (F := Ideal) i gc gl x ac (ix3 z r d)
      = x (ix3 0 r d) + Scalar.select (ctxBit (BitVec.ofNat 32 (i 1).val) r.val) (gc (ix2 0 d)) (gl (ix3 0 0 d)) * ac (ix2 r d) := by
  pointwise [k0_pay4]
  rfl

/-- The root-mean-square norm of a row, times the gain. -/
theorem normed_at (x : Vec Ideal S1x768x1024 .f32) (g : Vec Ideal S1x1024 .f32) (r : Fin 768) (d : Fin 1024) :
    k0_pay5 (F := Ideal) x g (ix2 r d)
      = x (ix3 0 r d) * Ideal.rsqrt (Ideal.div (∑ y : Fin 1024, x (ix3 0 r y) * x (ix3 0 r y)) (Ideal.ofBits .f32 1149239296#32) + Ideal.ofBits .f32 897988541#32) * g (ix2 0 d) := by
  pointwise [k0_pay5]

/-- The shift of a row: the context's or the latents'. -/
theorem shift_at (a : BitVec 32) (x : Vec Ideal S1x1x1024 .f32) (g : Vec Ideal S1x1024 .f32) (r : Fin 768) (d : Fin 1024) :
    k0_pay7 (F := Ideal) a x g (ix2 r d) = Scalar.select (ctxBit a r.val) (g (ix2 0 d)) (x (ix3 0 0 d)) := by
  pointwise [k0_pay7, k0_pay6]
  rfl

/-- The modulated row: the narrowing is no change here. -/
theorem modulated_at (v47 v59 : FVec Ideal S768x1024 .f32) (a : BitVec 32) (g : Vec Ideal S1x1024 .f32) (x : Vec Ideal S1x1x1024 .f32) (r : Fin 768) (d : Fin 1024) :
    k0_pay1 (F := Ideal) v47 v59 (k0_pay8 a) (k0_pay9 g) (k0_pay10 x) (ix2 r d)
      = v47 (ix2 r d) * (1 + Scalar.select (ctxBit a r.val) (g (ix2 0 d)) (x (ix3 0 0 d))) + v59 (ix2 r d) := by
  pointwise [k0_pay1, k0_pay8, k0_pay6, k0_pay9, k0_pay10]
  rfl

theorem cleared_at (j : S768x1024.Idx) : k0_pay2 (F := Ideal) j = 0 := by
  pointwise [k0_pay2]

end Cert.Ffn
-- ==== Proof.Ffn.Sweep.lean ====
/-
  A row block's two points: what the first leaves in the scratches, and the row the second writes.
-/
module

public import proofs.«01_k».proof.Proof.Ffn.Blocks
public import proofs.«01_k».proof.Proof.Ffn.Payload
public import Idealize.ShloMosaic.Lib.Pipeline.ReadBack

@[expose] public section

set_option maxRecDepth 16384

noncomputable section

open Idealize.ShloMosaic Idealize.ShloMosaic.TcCoe Idealize.SL.Sem
open Cert.Kernel2Ideal Cert.Kernel2Ideal.Gen

namespace Cert.Ffn

variable [hF : Cert.Kernel2Ideal.Facts]
variable (m : (ℓ : Loc nD τ sig) → Buf (Elt Ideal) ℓ)

/-- The modulated rows of a row block, from the point's input blocks. -/
def rows (c : Dev nD) (t : Fin cfg0.N) : FVec Ideal S768x1024 .bf16 :=
  k0_pay1 (F := Ideal) (k0_pay5 (iblk m c 0 t) (iblk m c 3 t))
    (k0_pay7 (BitVec.ofNat 32 (grid0.coords t 1).val) (View.ld (iblk m c 1 t) (Rect.unit ![0, 0, 0] ![1, 1, 1024] inb_S1x3x1024_S1x1x1024_0_0_0))
      (View.ld (iblk m c 2 t) (Rect.unit ![0, 0] ![1, 1024] inb_S3x1024_S1x1024_0_0)))
    (k0_pay8 (BitVec.ofNat 32 (grid0.coords t 1).val)) (k0_pay9 (View.ld (iblk m c 2 t) (Rect.unit ![1, 0] ![1, 1024] inb_S3x1024_S1x1024_1_0)))
    (k0_pay10 (View.ld (iblk m c 1 t) (Rect.unit ![0, 1, 0] ![1, 1, 1024] inb_S1x3x1024_S1x1x1024_0_1_0)))

/-- The first point of a row block keeps the modulated rows, -/
theorem rows_first (c : Dev nD) (t : Fin cfg0.N) (h0 : t.val % 2 = 0) (h1 : ¬t.val % 2 = 1) :
    (outsAt0 m c t.val t.isLt).2.1 = rows m c t := by
  rw [outsAt0_A m c t h0 h1]
  frame_out
  rfl

/-- … and the first half of the sum. -/
theorem acc_first (c : Dev nD) (t : Fin cfg0.N) (h0 : t.val % 2 = 0) (h1 : ¬t.val % 2 = 1) :
    (outsAt0 m c t.val t.isLt).2.2 = k0_pay3 (F := Ideal) (rows m c t) (iblk m c 4 t) (iblk m c 5 t) (k0_pay2 (F := Ideal)) (iblk m c 6 t) := by
  rw [outsAt0_A m c t h0 h1]
  frame_out
  rfl

/-- The second point adds the other half and writes the output. -/
theorem out_second (c : Dev nD) (t : Fin cfg0.N) (h0 : ¬t.val % 2 = 0) (h1 : t.val % 2 = 1) :
    (outsAt0 m c t.val t.isLt).1 = k0_pay4 (F := Ideal) (grid0.coords t) (View.ld (iblk m c 2 t) (Rect.unit ![2, 0] ![1, 1024] inb_S3x1024_S1x1024_2_0))
      (View.ld (iblk m c 1 t) (Rect.unit ![0, 2, 0] ![1, 1, 1024] inb_S1x3x1024_S1x1x1024_0_2_0)) (iblk m c 0 t)
      (k0_pay3 (F := Ideal) (outsAt0 m c (t.val - 1) (Nat.lt_of_le_of_lt (Nat.sub_le _ _) t.isLt)).2.1 (iblk m c 4 t) (iblk m c 5 t) (outsAt0 m c (t.val - 1) (Nat.lt_of_le_of_lt (Nat.sub_le _ _) t.isLt)).2.2 (iblk m c 6 t)) := by
  rw [outsAt0_B m c t h0 h1]
  frame_out
  simp only [read_unread_whole]
  rfl

/-- The kernel's argument arrays as the layer's arguments. -/
def layer (c : Dev nD) : Layer where
  x b n d := m ((c : Thread nD τ).loc main_arg0) (ix3 b n d)
  ml b k d := m ((c : Thread nD τ).loc main_arg1) (ix3 b k d)
  mc k d := m ((c : Thread nD τ).loc main_arg2) (ix2 k d)
  g d := m ((c : Thread nD τ).loc main_arg3) (ix1 d)
  w1 y j := m ((c : Thread nD τ).loc main_arg4) (ix2 y j)
  w3 y j := m ((c : Thread nD τ).loc main_arg5) (ix2 y j)
  w2 j d := m ((c : Thread nD τ).loc main_arg6) (ix2 j d)

/-- Point `t` works on row `n` of batch `b` at row `r` of its block. -/
def At (t : Fin cfg0.N) (r : Fin 768) (b : Fin 2) (n : Fin 8448) : Prop := b.val = t.val / 22 ∧ n.val = t.val / 2 % 11 * 768 + r.val

section point
variable (c : Dev nD) (t : Fin cfg0.N) (r : Fin 768) (b : Fin 2) (n : Fin 8448) (h : At t r b n)
include h

/-- The choice between context and latents at a row of a block. -/
theorem pick_at (u v : EReal) :
    Scalar.select (ctxBit (BitVec.ofNat 32 (grid0.coords t 1).val) r.val) u v = if n.val < 256 then u else v := by
  obtain ⟨-, -, -, -, -, -, -, h1⟩ := idx t
  rw [h1, ctxBit_ofNat _ _ (Nat.mod_lt _ (by omega)) r.isLt]
  by_cases hn : n.val < 256
  · rw [decide_eq_true (show 768 * (t.val / 2 % 11) + r.val < 256 by have := h.2; omega), if_pos hn]
    exact if_pos rfl
  · rw [decide_eq_false (show ¬ 768 * (t.val / 2 % 11) + r.val < 256 by have := h.2; omega), if_neg hn]
    exact if_neg (by decide)

/-- The modulated rows the point computes. -/
theorem rows_at (d : Fin 1024) : rows m c t (ix2 r d) = (layer m c).row b n d := by
  unfold rows
  rw [modulated_at, normed_at, shift_at, pick_at t r b n h, pick_at t r b n h, blk3, blk0 m c t 0 r d b n h.1 h.2,
    ld2 m c t 1 (by omega), ld1 m c t 1 (by omega) _ d b h.1, ld2 m c t 0 (by omega), ld1 m c t 0 (by omega) _ d b h.1]
  have e : ∀ y, iblk m c 0 t (ix3 0 r y) = (layer m c).x b n y := fun y => blk0 m c t 0 r y b n h.1 h.2
  simp only [e]
  rfl

/-- The half a point adds. -/
theorem half_at (hs : FVec Ideal S768x1024 .bf16) (ac : FVec Ideal S768x1024 .f32) (hh : ∀ y, hs (ix2 r y) = (layer m c).row b n y)
    (k : Fin 2) (hk : k.val = t.val % 2) (d : Fin 1024) :
    k0_pay3 (F := Ideal) hs (iblk m c 4 t) (iblk m c 5 t) ac (iblk m c 6 t) (ix2 r d) = ac (ix2 r d) + (layer m c).half b n k d := by
  rw [tile_at]
  congr 1
  unfold Layer.half
  refine Finset.sum_congr rfl fun x _ => ?_
  have hj : k.val * 1408 + x.val < 2816 := by omega
  have w1 : ∀ y, iblk m c 4 t (ix2 y x) = (layer m c).w1 y ⟨k.val * 1408 + x.val, hj⟩ := fun y =>
    blk4 m c t y x ⟨k.val * 1408 + x.val, hj⟩ (by rw [← hk])
  have w3 : ∀ y, iblk m c 5 t (ix2 y x) = (layer m c).w3 y ⟨k.val * 1408 + x.val, hj⟩ := fun y =>
    blk5 m c t y x ⟨k.val * 1408 + x.val, hj⟩ (by rw [← hk])
  have w2 : iblk m c 6 t (ix2 x d) = (layer m c).w2 ⟨k.val * 1408 + x.val, hj⟩ d :=
    blk6 m c t x d ⟨k.val * 1408 + x.val, hj⟩ (by rw [← hk])
  simp only [hh, w1, w3, w2]
  rfl

end point

/-- The row the second point of a row block writes. -/
theorem written (c : Dev nD) (t : Fin cfg0.N) (r : Fin 768) (b : Fin 2) (n : Fin 8448) (h : At t r b n) (h1 : t.val % 2 = 1) (z : Fin 1) (d : Fin 1024) :
    (outsAt0 m c t.val t.isLt).1 (ix3 z r d) = (layer m c).out b n d := by
  have h0 : ¬ t.val % 2 = 0 := by omega
  obtain ⟨t', ht'⟩ : ∃ t' : Fin cfg0.N, t' = ⟨t.val - 1, Nat.lt_of_le_of_lt (Nat.sub_le _ _) t.isLt⟩ := ⟨_, rfl⟩
  have hv : t'.val = t.val - 1 := by rw [ht']
  have g : At t' r b n := by
    refine ⟨h.1.trans ?_, h.2.trans ?_⟩
    · rw [hv]; omega
    · rw [hv, show (t.val - 1) / 2 = t.val / 2 by omega]
  have k0 : t'.val % 2 = 0 := by omega
  have k1 : ¬ t'.val % 2 = 1 := by omega
  have er : ∀ y, (outsAt0 m c (t.val - 1) (Nat.lt_of_le_of_lt (Nat.sub_le _ _) t.isLt)).2.1 (ix2 r y) = (layer m c).row b n y := fun y => by
    have e := rows_first m c t' k0 k1
    subst ht'
    rw [e]
    exact rows_at m c _ r b n g y
  have ea : (outsAt0 m c (t.val - 1) (Nat.lt_of_le_of_lt (Nat.sub_le _ _) t.isLt)).2.2 (ix2 r d) = (layer m c).half b n 0 d := by
    have e := acc_first m c t' k0 k1
    have f := half_at m c t' r b n g (rows m c t') (k0_pay2 (F := Ideal)) (rows_at m c t' r b n g) 0 k0.symm d
    subst ht'
    rw [e, f, cleared_at, zero_add]
  rw [out_second m c t h0 h1, written_at, pick_at t r b n h, blk0 m c t 0 r d b n h.1 h.2, ld2 m c t 2 (by omega), ld1 m c t 2 (by omega) _ d b h.1,
    half_at m c t r b n h _ _ er 1 h1.symm d, ea, Layer.halves]
  rfl

end Cert.Ffn
-- ==== Proof.Ffn.Reference.lean ====
/-
  What the reference of the dense feed-forward computes at a row.
-/
module

public import proofs.«01_k».proof.Proof.Gen.Reference2Ideal.Run
public import proofs.«01_k».proof.Proof.Ffn.Spec

@[expose] public section

set_option maxRecDepth 16384

noncomputable section

open Idealize.ShloMosaic Idealize.ShloMosaic.TcCoe Idealize.SL.Sem
open Cert.Reference2Ideal Cert.Reference2Ideal.Gen Cert.Reference2Ideal.Value

namespace Cert.Ffn.Reference

open Cert.Moe (gated)

variable [hF : Cert.Reference2Ideal.Facts]

/-- The modulation of every row, of the latents' and the context's. -/
def modulationOf (ml : FVec Ideal S2x3x1024 .f32) (mc : FVec Ideal S3x1024 .f32) : FVec Ideal S2x8448x3x1024 .f32 :=
  concatenate S2x8448x3x1024 1 [⟨S2x256x3x1024, (broadcastInDim S2x256x3x1024 ![0, 1, 2, 3] bcast_S1x1x3x1024_S2x256x3x1024_0_1_2_3 (broadcastInDim S1x1x3x1024 ![2, 3] bcast_S3x1024_S1x1x3x1024_2_3 mc))⟩, ⟨S2x8192x3x1024, (broadcastInDim S2x8192x3x1024 ![0, 1, 2, 3] bcast_S2x1x3x1024_S2x8192x3x1024_0_1_2_3 (broadcastInDim S2x1x3x1024 ![0, 2, 3] bcast_S2x3x1024_S2x1x3x1024_0_2_3 ml))⟩] concatenates_S2x256x3x1024_S2x8192x3x1024_S2x8448x3x1024_d1

theorem modulationOf_at (ml : FVec Ideal S2x3x1024 .f32) (mc : FVec Ideal S3x1024 .f32) (b : Fin 2) (n : Fin 8448) (k : Fin 3) (d : Fin 1024) :
    modulationOf ml mc (ix4 b n k d) = if n.val < 256 then mc (ix2 k d) else ml (ix3 b k d) := by
  pointwise [modulationOf]
  rfl

/-- The normed and modulated rows. -/
def rowsOf (x : FVec Ideal S2x8448x1024 .f32) (g : FVec Ideal S1024 .f32) (mm : FVec Ideal S2x8448x3x1024 .f32) : FVec Ideal S2x8448x1024 .f32 :=
  addf (mulf (mulf (mulf x (broadcastInDim S2x8448x1024 ![0, 1, 2] bcast_S2x8448x1_S2x8448x1024_0_1_2 (Host.rsqrt (addf (Host.divf (broadcastInDim S2x8448x1 ![0, 1] bcast_S2x8448_S2x8448x1_0_1 (Host.reduceAdd (mulf x x) (constant S_ .f32 0x00000000#32) reducesTo_S2x8448x1024_S2x8448_d2 h_S_)) (broadcastInDim S2x8448x1 ![] bcast_S_S2x8448x1 (constant S_ .f32 0x44800000#32))) (broadcastInDim S2x8448x1 ![] bcast_S_S2x8448x1 (constant S_ .f32 0x358637BD#32)))))) (broadcastInDim S2x8448x1024 ![0, 1, 2] bcast_S1x1x1024_S2x8448x1024_0_1_2 (broadcastInDim S1x1x1024 ![2] bcast_S1024_S1x1x1024_2 g))) (addf (broadcastInDim S2x8448x1024 ![] bcast_S_S2x8448x1024 (constant S_ .f32 0x3F800000#32)) (shapeCast _ (extractStridedSlice S2x8448x1x1024 ![0, 0, 1, 0] mm slices_S2x8448x3x1024_S2x8448x1x1024_0_0_1_0) shapeCasts_S2x8448x1x1024_S2x8448x1024))) (shapeCast _ (extractStridedSlice S2x8448x1x1024 ![0, 0, 0, 0] mm slices_S2x8448x3x1024_S2x8448x1x1024_0_0_0_0) shapeCasts_S2x8448x1x1024_S2x8448x1024)

theorem rowsOf_at (x : FVec Ideal S2x8448x1024 .f32) (g : FVec Ideal S1024 .f32) (mm : FVec Ideal S2x8448x3x1024 .f32) (b : Fin 2) (n : Fin 8448) (d : Fin 1024) :
    rowsOf x g mm (ix3 b n d)
      = x (ix3 b n d) * Ideal.rsqrt (Ideal.div (∑ y : Fin 1024, x (ix3 b n y) * x (ix3 b n y)) (Ideal.ofBits .f32 1149239296#32) + Ideal.ofBits .f32 897988541#32) * g (ix1 d)
        * (1 + mm (ix4 b n 1 d)) + mm (ix4 b n 0 d) := by
  pointwise [rowsOf]

/-- The gated product of the rows with the three weights. -/
def hiddenOf (h : FVec Ideal S2x8448x1024 .f32) (u1 u3 : FVec Ideal S1024x2816 .f32) (u2 : FVec Ideal S2816x1024 .f32) : FVec Ideal S2x8448x1024 .f32 :=
  (Host.dotGeneral dot_S2x8448x2816_S2816x1024_S2x8448x1024_2_0_01_1_n_n none (mulf (mulf (Host.dotGeneral dot_S2x8448x1024_S1024x2816_S2x8448x2816_2_0_01_1_n_n none h u1) (Host.divf (broadcastInDim S2x8448x2816 ![] bcast_S_S2x8448x2816 (constant S_ .f32 0x3F800000#32)) (addf (broadcastInDim S2x8448x2816 ![] bcast_S_S2x8448x2816 (constant S_ .f32 0x3F800000#32)) (Host.exp (Host.negf (Host.dotGeneral dot_S2x8448x1024_S1024x2816_S2x8448x2816_2_0_01_1_n_n none h u1)))))) (Host.dotGeneral dot_S2x8448x1024_S1024x2816_S2x8448x2816_2_0_01_1_n_n none h u3)) u2)

theorem hiddenOf_at (h : FVec Ideal S2x8448x1024 .f32) (u1 u3 : FVec Ideal S1024x2816 .f32) (u2 : FVec Ideal S2816x1024 .f32) (b : Fin 2) (n : Fin 8448) (d : Fin 1024) :
    hiddenOf h u1 u3 u2 (ix3 b n d)
      = ∑ j : Fin 2816, gated (∑ y : Fin 1024, h (ix3 b n y) * u1 (ix2 y j)) (∑ y : Fin 1024, h (ix3 b n y) * u3 (ix2 y j)) * u2 (ix2 j d) := by
  pointwise [hiddenOf]
  rfl

/-- The layer's result. -/
def resultOf (x : FVec Ideal S2x8448x1024 .f32) (mm : FVec Ideal S2x8448x3x1024 .f32) (f : FVec Ideal S2x8448x1024 .f32) : FVec Ideal S2x8448x1024 .f32 :=
  addf x (mulf (shapeCast _ (extractStridedSlice S2x8448x1x1024 ![0, 0, 2, 0] mm slices_S2x8448x3x1024_S2x8448x1x1024_0_0_2_0) shapeCasts_S2x8448x1x1024_S2x8448x1024) f)

theorem resultOf_at (x : FVec Ideal S2x8448x1024 .f32) (mm : FVec Ideal S2x8448x3x1024 .f32) (f : FVec Ideal S2x8448x1024 .f32) (b : Fin 2) (n : Fin 8448) (d : Fin 1024) :
    resultOf x mm f (ix3 b n d) = x (ix3 b n d) + mm (ix4 b n 2 d) * f (ix3 b n d) := by
  pointwise [resultOf]

variable (m : (ℓ : Loc nD τ sig) → Buf (Elt Ideal) ℓ) (c : Dev nD)

/-- The reference's result array is the composition of these. -/
theorem result_eq : res_main_v34 (F := Ideal) m c
    = resultOf (m ((c.tc : Thread nD τ).loc main_arg0)) (modulationOf (m ((c.tc : Thread nD τ).loc main_arg1)) (m ((c.tc : Thread nD τ).loc main_arg2)))
      (hiddenOf (rowsOf (m ((c.tc : Thread nD τ).loc main_arg0)) (m ((c.tc : Thread nD τ).loc main_arg3)) (modulationOf (m ((c.tc : Thread nD τ).loc main_arg1)) (m ((c.tc : Thread nD τ).loc main_arg2))))
        (m ((c.tc : Thread nD τ).loc main_arg4)) (m ((c.tc : Thread nD τ).loc main_arg5)) (m ((c.tc : Thread nD τ).loc main_arg6))) := rfl

/-- The reference's argument arrays as the layer's arguments. -/
def layer : Layer where
  x b n d := m ((c.tc : Thread nD τ).loc main_arg0) (ix3 b n d)
  ml b k d := m ((c.tc : Thread nD τ).loc main_arg1) (ix3 b k d)
  mc k d := m ((c.tc : Thread nD τ).loc main_arg2) (ix2 k d)
  g d := m ((c.tc : Thread nD τ).loc main_arg3) (ix1 d)
  w1 y j := m ((c.tc : Thread nD τ).loc main_arg4) (ix2 y j)
  w3 y j := m ((c.tc : Thread nD τ).loc main_arg5) (ix2 y j)
  w2 j d := m ((c.tc : Thread nD τ).loc main_arg6) (ix2 j d)

/-- The reference's row. -/
theorem out_at (b : Fin 2) (n : Fin 8448) (d : Fin 1024) : res_main_v34 (F := Ideal) m c (ix3 b n d) = (layer m c).out b n d := by
  rw [result_eq, resultOf_at, hiddenOf_at]
  simp only [rowsOf_at, modulationOf_at]
  rfl

end Cert.Ffn.Reference
-- ==== Proof.Ffn.Equation.lean ====
/-
  The kernel's result array of the dense feed-forward is the reference's.
-/
module

public import proofs.«01_k».proof.Proof.Ffn.Sweep
public import proofs.«01_k».proof.Proof.Ffn.Reference

@[expose] public section

set_option maxRecDepth 16384

noncomputable section

open Idealize.ShloMosaic Idealize.ShloMosaic.TcCoe Idealize.SL.Sem

namespace Cert.Ffn

section kernel
open Cert.Kernel2Ideal Cert.Kernel2Ideal.Gen Cert.Kernel2Ideal.Value
variable [hF : Cert.Kernel2Ideal.Facts]
variable (m : (ℓ : Loc nD τ sig) → Buf (Elt Ideal) ℓ)

/-- The kernel's result array at a row. -/
theorem array_at (c : Dev nD) (b : Fin 2) (n : Fin 8448) (d : Fin 1024) : G7 m c (ix3 b n d) = (layer m c).out b n d := by
  have hr : run7Of (ix3 b n d) = 11 * (b.val / 1 - 0) + 1 * (n.val / 768 - 0) + 1 * (d.val / 1024 - 0) := rfl
  have ht : pt7Of (ix3 b n d) = 2 * run7Of (ix3 b n d) + 1 := rfl
  have hlt : pt7Of (ix3 b n d) < cfg0.N := by
    rw [show cfg0.N = 44 from N_0]
    omega
  have hn : n.val % 768 < 768 := Nat.mod_lt _ (by omega)
  have hl : loc7Of (ix3 b n d) = ix3 (0 : Fin 1) (⟨n.val % 768, hn⟩ : Fin 768) d := by
    funext a
    refine Fin.ext ?_
    fin_cases a
    · show b.val % 1 = 0
      omega
    · rfl
    · show d.val % 1024 = d.val
      exact Nat.mod_eq_of_lt d.isLt
  unfold G7
  rw [dif_pos hlt, ← outsAt0_sweep m c _ hlt, hl]
  refine written m c ⟨pt7Of (ix3 b n d), hlt⟩ ⟨n.val % 768, hn⟩ b n ⟨?_, ?_⟩ ?_ 0 d
  · show b.val = pt7Of (ix3 b n d) / 22
    omega
  · show n.val = pt7Of (ix3 b n d) / 2 % 11 * 768 + n.val % 768
    omega
  · show pt7Of (ix3 b n d) % 2 = 1
    omega

end kernel

/-- On equal arguments the two result arrays are one. -/
theorem arrays_eq [hK : Cert.Kernel2Ideal.Facts] [hR : Cert.Reference2Ideal.Facts] (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : Reference.layer m' c = layer m c) (b : Fin 2) (n : Fin 8448) (d : Fin 1024) :
    Cert.Reference2Ideal.Value.res_main_v34 (F := Ideal) m' c (ix3 b n d) = Cert.Kernel2Ideal.Value.G7 m c (ix3 b n d) := by
  rw [Reference.out_at, array_at, h]

end Cert.Ffn
-- ==== Proof.Att.Online.lean ====
/-
  A softmax-weighted sum taken a chunk of keys at a time: the running maximum, the running mass and the running weighted sum of the
  keys seen so far, and what one more chunk makes of them.
-/
module

public import proofs.«01_k».proof.Proof.Moe.Finite

@[expose] public section

noncomputable section

open Idealize.ShloMosaic Cert.Moe

namespace Cert.Att

variable {ι κ : Type}

/-- A finite nonnegative factor moves into a finite sum. -/
theorem mul_sum {a : EReal} (h0 : 0 ≤ a) (ht : a ≠ ⊤) (A : Finset ι) (f : ι → EReal) : a * ∑ x ∈ A, f x = ∑ x ∈ A, a * f x := by
  classical
  induction A using Finset.induction_on with
  | empty => simp
  | insert x A hx ih => rw [Finset.sum_insert hx, Finset.sum_insert hx, EReal.left_distrib_of_nonneg_of_ne_top h0 ht, ih]

theorem exp_nonneg (x : EReal) : 0 ≤ Ideal.exp x := by
  induction x with
  | bot => exact le_refl _
  | top => exact le_top
  | coe r => rw [Ideal.exp_coe]; exact EReal.coe_nonneg.mpr (Real.exp_pos r).le

theorem exp_bot : Ideal.exp ⊥ = 0 := rfl

/-- Weights taken against an earlier maximum `m`, rescaled to the later maximum `m'`. -/
theorem rescale {s m m' : EReal} (h1 : s ≤ m) (h2 : m ≤ m') (h3 : m' ≠ ⊤) :
    Ideal.exp (m - m') * Ideal.exp (s - m) = Ideal.exp (s - m') := by
  induction m with
  | bot =>
    obtain rfl : s = ⊥ := le_bot_iff.mp h1
    have : (⊥ : EReal) - m' = ⊥ := by rw [sub_eq_add_neg, EReal.bot_add]
    rw [this, exp_bot, zero_mul]
  | top => exact absurd (top_le_iff.mp h2) h3
  | coe r =>
    induction m' with
    | bot => exact absurd (le_bot_iff.mp h2) (EReal.coe_ne_bot r)
    | top => exact absurd rfl h3
    | coe r' =>
      induction s with
      | bot => rw [EReal.bot_sub, EReal.bot_sub, exp_bot, mul_zero]
      | top => exact absurd (top_le_iff.mp h1) (EReal.coe_ne_top r)
      | coe x =>
        rw [← EReal.coe_sub, ← EReal.coe_sub, ← EReal.coe_sub, Ideal.exp_coe, Ideal.exp_coe, Ideal.exp_coe, ← EReal.coe_mul, ← Real.exp_add]
        congr 2
        ring

theorem factor_ne_top {m m' : EReal} (h : m ≤ m') (h3 : m' ≠ ⊤) : Ideal.exp (m - m') ≠ ⊤ := by
  induction m with
  | bot =>
    rw [EReal.bot_sub, exp_bot]
    exact EReal.zero_ne_top
  | top => exact absurd (top_le_iff.mp h) h3
  | coe r =>
    induction m' with
    | bot => exact absurd (le_bot_iff.mp h) (EReal.coe_ne_bot r)
    | top => exact absurd rfl h3
    | coe r' =>
      rw [← EReal.coe_sub, Ideal.exp_coe]
      exact EReal.coe_ne_top _

/-- The weighted sum of the values `v` over the keys `A`, the weights taken against the largest score of `A`. -/
def mix (s v : ι → EReal) (A : Finset ι) : EReal := ∑ x ∈ A, Ideal.exp (s x - A.sup s) * v x

/-- The mass of the weights. -/
def mass (s : ι → EReal) (A : Finset ι) : EReal := ∑ x ∈ A, Ideal.exp (s x - A.sup s)

theorem mass_eq (s : ι → EReal) (A : Finset ι) : mass s A = mix s (fun _ => 1) A := by
  simp only [mass, mix, mul_one]

variable [DecidableEq ι] [Fintype κ] (s v : ι → EReal) (A : Finset ι) (e : κ ↪ ι)

theorem sup_step : (A ∪ Finset.univ.map e).sup s = max (A.sup s) (Finset.univ.sup fun j => s (e j)) := by
  rw [Finset.sup_union, Finset.sup_map]
  rfl

/-- One more chunk of keys. -/
theorem mix_step (hd : Disjoint A (Finset.univ.map e)) (ht : (A ∪ Finset.univ.map e).sup s ≠ ⊤) :
    Ideal.exp (A.sup s - (A ∪ Finset.univ.map e).sup s) * mix s v A
        + ∑ j, Ideal.exp (s (e j) - (A ∪ Finset.univ.map e).sup s) * v (e j)
      = mix s v (A ∪ Finset.univ.map e) := by
  have hle : A.sup s ≤ (A ∪ Finset.univ.map e).sup s := Finset.sup_mono Finset.subset_union_left
  unfold mix
  rw [mul_sum (exp_nonneg _) (factor_ne_top hle ht), Finset.sum_union hd, Finset.sum_map]
  congr 1
  refine Finset.sum_congr rfl fun x hx => ?_
  rw [← mul_assoc, rescale (Finset.le_sup hx) hle ht]

theorem mass_step (hd : Disjoint A (Finset.univ.map e)) (ht : (A ∪ Finset.univ.map e).sup s ≠ ⊤) :
    Ideal.exp (A.sup s - (A ∪ Finset.univ.map e).sup s) * mass s A
        + ∑ j, Ideal.exp (s (e j) - (A ∪ Finset.univ.map e).sup s)
      = mass s (A ∪ Finset.univ.map e) := by
  rw [mass_eq, mass_eq, ← mix_step s (fun _ => 1) A e hd ht]
  simp only [mul_one]

omit [DecidableEq ι] in
/-- Finite scores have a finite maximum and a positive finite mass. -/
theorem mass_real (hs : ∀ x, IsReal (s x)) (hA : A.Nonempty) : ∃ r : ℝ, 0 < r ∧ mass s A = (r : EReal) := by
  classical
  obtain ⟨y, _, hy⟩ := Finset.exists_mem_eq_sup A hA s
  choose f hf using hs
  have sum : ∀ B : Finset ι, ∑ x ∈ B, ((Real.exp (f x - f y) : ℝ) : EReal) = ((∑ x ∈ B, Real.exp (f x - f y) : ℝ) : EReal) := fun B => by
    induction B using Finset.induction_on with
    | empty => simp
    | insert x B hx ih => rw [Finset.sum_insert hx, Finset.sum_insert hx, ih, EReal.coe_add]
  refine ⟨∑ x ∈ A, Real.exp (f x - f y), Finset.sum_pos (fun x _ => Real.exp_pos _) hA, ?_⟩
  rw [← sum]
  refine Finset.sum_congr rfl fun x _ => ?_
  rw [hy, hf x, hf y, ← EReal.coe_sub, Ideal.exp_coe]

omit [DecidableEq ι] in
theorem sup_ne_top (hs : ∀ x, IsReal (s x)) : A.sup s ≠ ⊤ := by
  rcases A.eq_empty_or_nonempty with rfl | hA
  · rw [Finset.sup_empty]; exact bot_ne_top
  · obtain ⟨y, _, hy⟩ := Finset.exists_mem_eq_sup A hA s
    obtain ⟨r, hr⟩ := hs y
    rw [hy, hr]
    exact EReal.coe_ne_top r

omit [DecidableEq ι] in
/-- Dividing the weighted sum by the mass is weighting by the divided weights. -/
theorem mix_div (hs : ∀ x, IsReal (s x)) (hA : A.Nonempty) :
    Ideal.div (mix s v A) (mass s A) = ∑ x ∈ A, Ideal.div (Ideal.exp (s x - A.sup s)) (mass s A) * v x := by
  obtain ⟨r, h0, hr⟩ := mass_real s A hs hA
  have hc : (0 : EReal) ≤ ((1 / r : ℝ) : EReal) := EReal.coe_nonneg.mpr (by positivity)
  rw [hr, Ideal.div_coe h0.ne', mul_comm, mix, mul_sum hc (EReal.coe_ne_top _)]
  refine Finset.sum_congr rfl fun x _ => ?_
  rw [Ideal.div_coe h0.ne', ← mul_assoc, mul_comm (((1 / r : ℝ) : EReal))]

end Cert.Att

end
-- ==== Proof.Att.Spec.lean ====
/-
  The global attention of four heads of 64 columns: context rows see the 256 context keys, latent rows see every key.
-/
module

public import proofs.«01_k».proof.Proof.Att.Online

@[expose] public section

noncomputable section

open Idealize.ShloMosaic Cert.Moe

namespace Cert.Att

/-- `N` keys from key `N k` on. -/
def chunk (N k : ℕ) (h : N * k + N ≤ 8448) : Fin N ↪ Fin 8448 where
  toFun j := ⟨N * k + j.val, by omega⟩
  inj' i j e := by
    have := congrArg Fin.val e
    exact Fin.ext (by simpa using this)

/-- The keys a row sees. -/
def keys (n : Fin 8448) : Finset (Fin 8448) := if n.val < 256 then Finset.univ.map (chunk 256 0 (by omega)) else Finset.univ

theorem keys_nonempty (n : Fin 8448) : (keys n).Nonempty := by
  unfold keys
  split
  · exact ⟨chunk 256 0 (by omega) 0, Finset.mem_map_of_mem _ (Finset.mem_univ _)⟩
  · exact ⟨0, Finset.mem_univ _⟩

/-- The queries, the keys and the values, the heads' columns side by side. -/
structure Heads where
  q : Fin 2 → Fin 8448 → Fin 256 → EReal
  k : Fin 2 → Fin 8448 → Fin 256 → EReal
  v : Fin 2 → Fin 8448 → Fin 256 → EReal

/-- The head a column belongs to. -/
def headOf (d : Fin 256) : Fin 4 := ⟨d.val / 64, by omega⟩

/-- Column `y` of head `h`. -/
def column (h : Fin 4) (y : Fin 64) : Fin 256 := ⟨64 * h.val + y.val, by omega⟩

namespace Heads
variable (A : Heads)

/-- The score of key `x` for a row in head `h`. -/
def score (b : Fin 2) (n : Fin 8448) (h : Fin 4) (x : Fin 8448) : EReal := ∑ y : Fin 64, A.q b n (column h y) * A.k b x (column h y)

/-- The attention's row. -/
def out (b : Fin 2) (n : Fin 8448) (d : Fin 256) : EReal :=
  ∑ x ∈ keys n, Ideal.div (Ideal.exp (A.score b n (headOf d) x - (keys n).sup (A.score b n (headOf d)))) (mass (A.score b n (headOf d)) (keys n)) * A.v b x d

/-- The queries and the keys hold no infinity. -/
structure Finite : Prop where
  q : ∀ b n d, IsReal (A.q b n d)
  k : ∀ b n d, IsReal (A.k b n d)

variable {A}

theorem Finite.score (hA : A.Finite) (b : Fin 2) (n : Fin 8448) (h : Fin 4) (x : Fin 8448) : IsReal (A.score b n h x) :=
  IsReal.sum fun y => (hA.q _ _ _).mul (hA.k _ _ _)

theorem Finite.out (hA : A.Finite) (b : Fin 2) (n : Fin 8448) (d : Fin 256) :
    A.out b n d = Ideal.div (mix (A.score b n (headOf d)) (fun x => A.v b x d) (keys n)) (mass (A.score b n (headOf d)) (keys n)) :=
  (mix_div _ _ _ (hA.score b n _) (keys_nonempty n)).symm

end Heads

end Cert.Att

end
-- ==== Proof.Att.Payload.lean ====
/-
  What each pure value of the global attention's body is at an index, over the extended reals.
-/
module

public import proofs.«01_k».proof.Proof.Gen.Kernel3Ideal.Skeleton
public import proofs.«01_k».proof.Proof.Att.Online
public import Idealize.ShloMosaic.Lib.WordCmp

@[expose] public section

set_option maxRecDepth 16384

noncomputable section

open Idealize.ShloMosaic Idealize.ShloMosaic.TcCoe Idealize.SL.Sem
open Cert.Kernel3Ideal Cert.Kernel3Ideal.Gen

namespace Cert.Att

variable [hF : Cert.Kernel3Ideal.Facts]

/-- The choice between the first head's lanes and the second's. -/
theorem lane_select (y : Fin 128) (a b : EReal) :
    Scalar.select (IntOp.cmpi .slt (BitVec.ofNat 32 y.val) 64#32) a b = if y.val < 64 then a else b := by
  rw [show (64#32 : BitVec 32) = BitVec.ofNat 32 64 from rfl, WordCmp.cmpi_slt_ofNat (by omega) (by omega)]
  by_cases h : y.val < 64
  · rw [decide_eq_true h, if_pos h]
    exact if_pos rfl
  · rw [decide_eq_false h, if_neg h]
    exact if_neg (by decide)

/-- Two heads' queries stacked: rows 0..255 keep the first head's lanes, rows 256..511 the second's. -/
theorem stacked_at (q : Vec Ideal S1x256x128 .bf16) (R : Fin 512) (y : Fin 128) :
    k0_pay37 (F := Ideal) q (ix2 R y) = if h : R.val < 256 then (if y.val < 64 then q (ix3 0 ⟨R.val, h⟩ y) else 0)
      else (if y.val < 64 then 0 else q (ix3 0 ⟨R.val - 256, by omega⟩ y)) := by
  pointwise [k0_pay37]
  split
  · exact lane_select y _ _
  · exact lane_select y _ _

theorem scores_at (q2 : Vec Ideal S512x128 .bf16) (k : Vec Ideal S1x768x128 .bf16) (R : Fin 512) (j : Fin 768) :
    k0_pay4 (F := Ideal) q2 k (ix2 R j) = ∑ y : Fin 128, q2 (ix2 R y) * k (ix3 0 j y) := by
  pointwise [k0_pay4]

theorem top_at (q2 : Vec Ideal S512x128 .bf16) (m : Vec Ideal S512x1 .f32) (k : Vec Ideal S1x768x128 .bf16) (R : Fin 512) :
    k0_pay5 (F := Ideal) q2 m k (ix2 R 0) = max (m (ix2 R 0)) (Finset.univ.fold max (Ideal.ofBits .f32 4286578688#32) fun j : Fin 768 => k0_pay4 (F := Ideal) q2 k (ix2 R j)) := by
  pointwise [k0_pay5]

theorem factor_at (q2 : Vec Ideal S512x128 .bf16) (m : Vec Ideal S512x1 .f32) (k : Vec Ideal S1x768x128 .bf16) (R : Fin 512) :
    k0_pay6 (F := Ideal) q2 m k (ix2 R 0) = Ideal.exp (m (ix2 R 0) - k0_pay5 (F := Ideal) q2 m k (ix2 R 0)) := by
  pointwise [k0_pay6]

theorem weights_at (q2 : Vec Ideal S512x128 .bf16) (m : Vec Ideal S512x1 .f32) (k : Vec Ideal S1x768x128 .bf16) (R : Fin 512) (j : Fin 768) :
    k0_pay7 (F := Ideal) q2 m k (ix2 R j) = Ideal.exp (k0_pay4 (F := Ideal) q2 k (ix2 R j) - k0_pay5 (F := Ideal) q2 m k (ix2 R 0)) := by
  pointwise [k0_pay7]

theorem mass_at (q2 : Vec Ideal S512x128 .bf16) (m l : Vec Ideal S512x1 .f32) (k : Vec Ideal S1x768x128 .bf16) (R : Fin 512) :
    k0_pay8 (F := Ideal) q2 m l k (ix2 R 0) = k0_pay6 (F := Ideal) q2 m k (ix2 R 0) * l (ix2 R 0) + ∑ j : Fin 768, k0_pay7 (F := Ideal) q2 m k (ix2 R j) := by
  pointwise [k0_pay8]

theorem mix_at (q2 : Vec Ideal S512x128 .bf16) (m : Vec Ideal S512x1 .f32) (ac : Vec Ideal S512x128 .f32) (k v : Vec Ideal S1x768x128 .bf16) (R : Fin 512) (y : Fin 128) :
    k0_pay9 (F := Ideal) q2 m ac k v (ix2 R y) = k0_pay6 (F := Ideal) q2 m k (ix2 R 0) * ac (ix2 R y) + ∑ j : Fin 768, k0_pay7 (F := Ideal) q2 m k (ix2 R j) * v (ix3 0 j y) := by
  pointwise [k0_pay9]

/-- The context block's scores, maxima, weights and sums: one chunk of 256 keys. -/
theorem scores1_at (q : Vec Ideal S1x256x128 .bf16) (k : Vec Ideal S1x256x128 .bf16) (R : Fin 512) (j : Fin 256) :
    k0_pay12 (F := Ideal) q k (ix2 R j) = ∑ y : Fin 128, k0_pay37 (F := Ideal) q (ix2 R y) * k (ix3 0 j y) := by
  show matmul dot_S512x128_S256x128_S512x256_1_1_0_0_n_n none (k0_pay37 (F := Ideal) q) (shapeCast S256x128 k shapeCasts_S1x256x128_S256x128) (constant S512x256 .f32 0x00000000#32) (ix2 R j) = _
  pointwise

theorem top1_at (q k : Vec Ideal S1x256x128 .bf16) (R : Fin 512) :
    k0_pay13 (F := Ideal) q k (ix2 R 0) = max ⊥ (Finset.univ.fold max (Ideal.ofBits .f32 4286578688#32) fun j : Fin 256 => k0_pay12 (F := Ideal) q k (ix2 R j)) := by
  pointwise [k0_pay13, k0_pay11]
  rfl

theorem factor1_at (q k : Vec Ideal S1x256x128 .bf16) (R : Fin 512) :
    k0_pay14 (F := Ideal) q k (ix2 R 0) = Ideal.exp (⊥ - k0_pay13 (F := Ideal) q k (ix2 R 0)) := by
  pointwise [k0_pay14, k0_pay11]
  rfl

theorem weights1_at (q k : Vec Ideal S1x256x128 .bf16) (R : Fin 512) (j : Fin 256) :
    k0_pay15 (F := Ideal) q k (ix2 R j) = Ideal.exp (k0_pay12 (F := Ideal) q k (ix2 R j) - k0_pay13 (F := Ideal) q k (ix2 R 0)) := by
  pointwise [k0_pay15]

theorem mass1_at (q k : Vec Ideal S1x256x128 .bf16) (R : Fin 512) :
    k0_pay16 (F := Ideal) q k (ix2 R 0) = k0_pay14 (F := Ideal) q k (ix2 R 0) * 0 + ∑ j : Fin 256, k0_pay15 (F := Ideal) q k (ix2 R j) := by
  pointwise [k0_pay16]

theorem mix1_at (q k v : Vec Ideal S1x256x128 .bf16) (R : Fin 512) (y : Fin 128) :
    k0_pay17 (F := Ideal) q k v (ix2 R y) = k0_pay14 (F := Ideal) q k (ix2 R 0) * 0 + ∑ j : Fin 256, k0_pay15 (F := Ideal) q k (ix2 R j) * v (ix3 0 j y) := by
  pointwise [k0_pay17]

/-- The two heads of a row unstacked and divided by their masses. -/
theorem unstacked_at (l : Vec Ideal S512x1 .f32) (ac : Vec Ideal S512x128 .f32) (r : Fin 256) (y : Fin 128) :
    k0_pay36 (F := Ideal) l ac (ix2 r y) = if y.val < 64 then Ideal.div (ac (ix2 ⟨r.val, by omega⟩ y)) (l (ix2 ⟨r.val, by omega⟩ 0))
      else Ideal.div (ac (ix2 ⟨256 + r.val, by omega⟩ y)) (l (ix2 ⟨256 + r.val, by omega⟩ 0)) := by
  pointwise [k0_pay36]
  exact lane_select y _ _

/-- What is stored: the two halves of the columns. -/
theorem stored_at (o : Vec Ideal S256x128 .f32) (l : Vec Ideal S512x1 .f32) (ac : Vec Ideal S512x128 .f32) (z : Fin 1) (r : Fin 256) (d : Fin 256) :
    k0_pay10 (F := Ideal) o l ac (ix3 z r d) = if h : d.val < 128 then o (ix2 r ⟨d.val, h⟩) else k0_pay36 (F := Ideal) l ac (ix2 r ⟨d.val - 128, by omega⟩) := by
  show shapeCast S1x256x256 (truncf .bf16 (concatenate S256x256 1 [⟨S256x128, o⟩, ⟨S256x128, k0_pay36 (F := Ideal) l ac⟩] concatenates_S256x128_S256x128_S256x256_d1) bitsLt_bf16_f32) shapeCasts_S256x256_S1x256x256 (ix3 z r d) = _
  pointwise

theorem stored_context (q k v q' k' v' : Vec Ideal S1x256x128 .bf16) :
    k0_pay1 (F := Ideal) (k0_pay18 (k0_pay16 q k) (k0_pay17 q k v)) k0_pay20 (k0_pay21 v') (k0_pay24 q' k') (k0_pay25 q' k') (k0_pay26 q' k')
      = k0_pay10 (k0_pay36 (k0_pay16 q k) (k0_pay17 q k v)) (k0_pay16 q' k') (k0_pay17 q' k' v') := rfl

end Cert.Att

end
-- ==== Proof.Att.Chunk.lean ====
/-
  The kernel's running state of a row block against the keys seen so far, and one more chunk of keys.
-/
module

public import proofs.«01_k».proof.Proof.Att.Payload
public import proofs.«01_k».proof.Proof.Att.Spec

@[expose] public section

set_option maxRecDepth 16384

noncomputable section

open Idealize.ShloMosaic Idealize.ShloMosaic.TcCoe Idealize.SL.Sem
open Cert.Kernel3Ideal Cert.Kernel3Ideal.Gen
open Cert.Moe (IsReal)

namespace Cert.Att

variable [hF : Cert.Kernel3Ideal.Facts]

/-- A chunk's largest score. -/
theorem fold_max_sup {N : ℕ} (f : Fin N → EReal) : Finset.univ.fold max (Ideal.ofBits .f32 4286578688#32) f = Finset.univ.sup f := by
  rw [show Ideal.ofBits .f32 4286578688#32 = ⊥ by simp [Ideal.ofBits, Ideal.ieee]]
  rfl

/-- The maxima, masses and weighted sums of the stacked rows are those of the scores `s` and the lanes' values `v` over the keys `K`. -/
def Holds (s : Fin 512 → Fin 8448 → EReal) (v : Fin 128 → Fin 8448 → EReal) (K : Finset (Fin 8448))
    (m l : Vec Ideal S512x1 .f32) (ac : Vec Ideal S512x128 .f32) : Prop :=
  ∀ R : Fin 512, m (ix2 R 0) = K.sup (s R) ∧ l (ix2 R 0) = mass (s R) K ∧ ∀ y : Fin 128, ac (ix2 R y) = mix (s R) (v y) K

variable (s : Fin 512 → Fin 8448 → EReal) (v : Fin 128 → Fin 8448 → EReal) (hs : ∀ R x, IsReal (s R x))

/-- Before the first chunk. -/
theorem holds_empty (m l : Vec Ideal S512x1 .f32) (ac : Vec Ideal S512x128 .f32) (hm : ∀ R, m (ix2 R 0) = ⊥) (hl : ∀ R, l (ix2 R 0) = 0)
    (ha : ∀ R y, ac (ix2 R y) = 0) : Holds s v ∅ m l ac := fun R => by
  refine ⟨?_, ?_, fun y => ?_⟩
  · rw [hm, Finset.sup_empty]
  · rw [hl]; simp [mass]
  · rw [ha]; simp [mix]

include hs

/-- One more chunk of 768 keys. -/
theorem holds_step (K : Finset (Fin 8448)) (e : Fin 768 ↪ Fin 8448) (hd : Disjoint K (Finset.univ.map e))
    (q2 : Vec Ideal S512x128 .bf16) (m l : Vec Ideal S512x1 .f32) (ac : Vec Ideal S512x128 .f32) (kk vv : Vec Ideal S1x768x128 .bf16)
    (hk : ∀ R j, k0_pay4 (F := Ideal) q2 kk (ix2 R j) = s R (e j)) (hv : ∀ j y, vv (ix3 0 j y) = v y (e j)) (h : Holds s v K m l ac) :
    Holds s v (K ∪ Finset.univ.map e) (k0_pay5 (F := Ideal) q2 m kk) (k0_pay8 (F := Ideal) q2 m l kk) (k0_pay9 (F := Ideal) q2 m ac kk vv) := fun R => by
  obtain ⟨h1, h2, h3⟩ := h R
  have ht : (K ∪ Finset.univ.map e).sup (s R) ≠ ⊤ := sup_ne_top (s R) _ (hs R)
  have top : k0_pay5 (F := Ideal) q2 m kk (ix2 R 0) = (K ∪ Finset.univ.map e).sup (s R) := by
    rw [top_at, fold_max_sup, sup_step, h1]
    simp only [hk]
  refine ⟨top, ?_, fun y => ?_⟩
  · rw [mass_at, factor_at, top, h1, h2, ← mass_step (s R) K e hd ht]
    simp only [weights_at, top, hk]
  · rw [mix_at, factor_at, top, h1, h3, ← mix_step (s R) (v y) K e hd ht]
    simp only [weights_at, top, hk, hv]

/-- The context block's single chunk of 256 keys. -/
theorem holds_context (e : Fin 256 ↪ Fin 8448) (q kk vv : Vec Ideal S1x256x128 .bf16)
    (hk : ∀ R j, k0_pay12 (F := Ideal) q kk (ix2 R j) = s R (e j)) (hv : ∀ j y, vv (ix3 0 j y) = v y (e j)) :
    Holds s v (Finset.univ.map e) (k0_pay13 (F := Ideal) q kk) (k0_pay16 (F := Ideal) q kk) (k0_pay17 (F := Ideal) q kk vv) := fun R => by
  have top : k0_pay13 (F := Ideal) q kk (ix2 R 0) = (Finset.univ.map e).sup (s R) := by
    rw [top1_at, fold_max_sup, Finset.sup_map, max_bot_left]
    simp only [hk]
    rfl
  refine ⟨top, ?_, fun y => ?_⟩
  · rw [mass1_at, mul_zero, zero_add, mass, Finset.sum_map]
    simp only [weights1_at, top, hk]
  · rw [mix1_at, mul_zero, zero_add, mix, Finset.sum_map]
    simp only [weights1_at, top, hk, hv]

omit hs

/-- A row's quotient, from the state after the last chunk. -/
theorem quotient_at (K : Finset (Fin 8448)) (m l : Vec Ideal S512x1 .f32) (ac : Vec Ideal S512x128 .f32) (h : Holds s v K m l ac) (r : Fin 256) (y : Fin 128)
    (R : Fin 512) (hR : R.val = 256 * (y.val / 64) + r.val) : k0_pay36 (F := Ideal) l ac (ix2 r y) = Ideal.div (mix (s R) (v y) K) (mass (s R) K) := by
  rw [unstacked_at]
  by_cases hy : y.val < 64
  · have e : (⟨r.val, by omega⟩ : Fin 512) = R := Fin.ext (by rw [hR]; show r.val = _; omega)
    rw [if_pos hy, e, (h _).2.1, (h _).2.2]
  · have e : (⟨256 + r.val, by omega⟩ : Fin 512) = R := Fin.ext (by rw [hR]; show 256 + r.val = _; omega)
    rw [if_neg hy, e, (h _).2.1, (h _).2.2]

/-- A stacked row's score is its own head's. -/
theorem stacked_sum (q : Vec Ideal S1x256x128 .bf16) (R : Fin 512) (f : Fin 128 → EReal) :
    ∑ y : Fin 128, k0_pay37 (F := Ideal) q (ix2 R y) * f y
      = ∑ y : Fin 64, q (ix3 0 ⟨R.val % 256, by omega⟩ ⟨64 * (R.val / 256) + y.val, by omega⟩) * f ⟨64 * (R.val / 256) + y.val, by omega⟩ := by
  refine (Fin.sum_univ_add (a := 64) (b := 64) fun y : Fin 128 => k0_pay37 (F := Ideal) q (ix2 R y) * f y).trans ?_
  simp only [stacked_at]
  by_cases h : R.val < 256
  · rw [show (∑ y : Fin 64, _ : EReal) = _ from Finset.sum_congr rfl fun y _ => by rw [dif_pos h, if_pos (show (Fin.castAdd 64 y).val < 64 from y.isLt)],
      Finset.sum_eq_zero (s := Finset.univ) (f := fun y : Fin 64 => _ * f (Fin.natAdd 64 y)) fun y _ => by
        rw [dif_pos h, if_neg (show ¬ (Fin.natAdd 64 y).val < 64 by simp), zero_mul], add_zero]
    refine Finset.sum_congr rfl fun y _ => ?_
    congr 3 <;> apply Fin.ext <;> simp <;> omega
  · rw [Finset.sum_eq_zero (s := Finset.univ) (f := fun y : Fin 64 => _ * f (Fin.castAdd 64 y)) fun y _ => by
        rw [dif_neg h, if_pos (show (Fin.castAdd 64 y).val < 64 from y.isLt), zero_mul], zero_add]
    refine Finset.sum_congr rfl fun y _ => ?_
    rw [dif_neg h, if_neg (show ¬ (Fin.natAdd 64 y).val < 64 by simp)]
    congr 3 <;> apply Fin.ext <;> simp <;> omega

end Cert.Att

end
-- ==== Proof.Att.Sweep.lean ====
/-
  The kernel's loops over the keys, trip by trip, and what a grid point writes, from its input blocks.
-/
module

public import proofs.«01_k».proof.Proof.Gen.Kernel3Ideal.Value
public import proofs.«01_k».proof.Proof.Att.Chunk
public import Idealize.ShloMosaic.Lib.Pipeline.ValueKit

@[expose] public section

set_option maxRecDepth 16384

noncomputable section

open Idealize.ShloMosaic Idealize.ShloMosaic.TcCoe Idealize.SL.Sem
open Cert.Kernel3Ideal Cert.Kernel3Ideal.Gen
open Cert.Moe (IsReal)

namespace Cert.Att

variable [hF : Cert.Kernel3Ideal.Facts]

/-- The keys before key `768 k`. -/
def seen (k : ℕ) : Finset (Fin 8448) := Finset.univ.filter fun x => x.val < 768 * k

theorem seen_zero : seen 0 = ∅ := by
  ext x
  simp [seen]

theorem mem_chunk (k : ℕ) (h : 768 * k + 768 ≤ 8448) (x : Fin 8448) :
    x ∈ Finset.univ.map (chunk 768 k h) ↔ 768 * k ≤ x.val ∧ x.val < 768 * k + 768 := by
  rw [Finset.mem_map]
  constructor
  · rintro ⟨j, _, rfl⟩
    exact ⟨Nat.le_add_right _ _, Nat.add_lt_add_left j.isLt _⟩
  · rintro ⟨h1, h2⟩
    exact ⟨⟨x.val - 768 * k, by omega⟩, Finset.mem_univ _, Fin.ext (show 768 * k + (x.val - 768 * k) = x.val by omega)⟩

theorem seen_succ (k : ℕ) (h : 768 * k + 768 ≤ 8448) : seen (k + 1) = seen k ∪ Finset.univ.map (chunk 768 k h) := by
  ext x
  rw [Finset.mem_union, mem_chunk]
  simp only [seen, Finset.mem_filter, Finset.mem_univ, true_and]
  omega

theorem seen_disjoint (k : ℕ) (h : 768 * k + 768 ≤ 8448) : Disjoint (seen k) (Finset.univ.map (chunk 768 k h)) := by
  rw [Finset.disjoint_left]
  intro x hx hc
  rw [mem_chunk] at hc
  simp only [seen, Finset.mem_filter, Finset.mem_univ, true_and] at hx
  omega

theorem seen_all : seen 11 = Finset.univ := by
  ext x
  simp only [seen, Finset.mem_filter, Finset.mem_univ, true_and, iff_true]
  omega

/-- The stacked rows' scores, from the queries loaded and the block of keys, in half `a` of the columns. -/
def scoreOf (a : ℕ) (ha : a < 2) (q : Vec Ideal S1x256x128 .bf16) (x1 : Vec Ideal S1x8448x256 .bf16) (R : Fin 512) (x : Fin 8448) : EReal :=
  ∑ y : Fin 128, k0_pay37 (F := Ideal) q (ix2 R y) * x1 (ix3 0 x ⟨128 * a + y.val, by omega⟩)

/-- The lanes' values in half `a` of the columns. -/
def valueOf (a : ℕ) (ha : a < 2) (x2 : Vec Ideal S1x8448x256 .bf16) (y : Fin 128) (x : Fin 8448) : EReal := x2 (ix3 0 x ⟨128 * a + y.val, by omega⟩)

/-- A load of 768 rows in half 0 of the columns. -/
theorem ld_lo (x : Vec Ideal S1x8448x256 .bf16) (k : Fin k0_t1_loop.trips) (h : 768 * k.val + 768 ≤ 8448) (inb) (j : Fin 768) (y : Fin 128) :
    View.ld x (Rect.unit (s := S1x8448x256) (k0_off3 k) ![1, 768, 128] inb) (ix3 0 j y) = x (ix3 0 (chunk 768 k.val h j) ⟨128 * 0 + y.val, by omega⟩) := by
  rw [View.ld_apply]
  blk_ext [k0_off3_eq k]
  · show k0_off3 k 1 + 1 * j.val = 768 * k.val + j.val
    rw [k0_off3_eq k, one_mul]
    rfl
  · show k0_off3 k 2 + 1 * y.val = 128 * 0 + y.val
    rw [k0_off3_eq k, one_mul]
    rfl

/-- A load of 768 rows in half 1 of the columns. -/
theorem ld_hi (x : Vec Ideal S1x8448x256 .bf16) (k : Fin k0_t2_loop.trips) (h : 768 * k.val + 768 ≤ 8448) (inb) (j : Fin 768) (y : Fin 128) :
    View.ld x (Rect.unit (s := S1x8448x256) (k0_off4 k) ![1, 768, 128] inb) (ix3 0 j y) = x (ix3 0 (chunk 768 k.val h j) ⟨128 * 1 + y.val, by omega⟩) := by
  rw [View.ld_apply]
  blk_ext [k0_off4_eq k]
  · show k0_off4 k 1 + 1 * j.val = 768 * k.val + j.val
    rw [k0_off4_eq k, one_mul]
    rfl
  · show k0_off4 k 2 + 1 * y.val = 128 + y.val
    rw [k0_off4_eq k, one_mul]
    rfl

/-- Loads of the context's 256 rows. -/
theorem ld_lo1 (x : Vec Ideal S1x8448x256 .bf16) (inb) (j : Fin 256) (y : Fin 128) :
    View.ld x (Rect.unit (s := S1x8448x256) k0_off1 ![1, 256, 128] inb) (ix3 0 j y) = x (ix3 0 (chunk 256 0 (by omega) j) ⟨128 * 0 + y.val, by omega⟩) := by
  rw [View.ld_apply]
  blk_ext [k0_off1_eq]
  · show k0_off1 1 + 1 * j.val = 256 * 0 + j.val
    rw [k0_off1_eq, one_mul]
    rfl
  · show k0_off1 2 + 1 * y.val = 128 * 0 + y.val
    rw [k0_off1_eq, one_mul]
    rfl

theorem ld_hi1 (x : Vec Ideal S1x8448x256 .bf16) (inb) (j : Fin 256) (y : Fin 128) :
    View.ld x (Rect.unit (s := S1x8448x256) k0_off2 ![1, 256, 128] inb) (ix3 0 j y) = x (ix3 0 (chunk 256 0 (by omega) j) ⟨128 * 1 + y.val, by omega⟩) := by
  rw [View.ld_apply]
  blk_ext [k0_off2_eq]
  · show k0_off2 1 + 1 * j.val = 256 * 0 + j.val
    rw [k0_off2_eq, one_mul]
    rfl
  · show k0_off2 2 + 1 * y.val = 128 + y.val
    rw [k0_off2_eq, one_mul]
    rfl

/-- The two halves of the queries' columns. -/
def half0 (x0 : Vec Ideal S1x256x256 .bf16) : Vec Ideal S1x256x128 .bf16 := View.ld x0 (Rect.unit ![0, 0, 0] ![1, 256, 128] inb_S1x256x256_S1x256x128_0_0_0)
def half1 (x0 : Vec Ideal S1x256x256 .bf16) : Vec Ideal S1x256x128 .bf16 := View.ld x0 (Rect.unit ![0, 0, 128] ![1, 256, 128] inb_S1x256x256_S1x256x128_0_0_128)

theorem half0_at (x0 : Vec Ideal S1x256x256 .bf16) (r : Fin 256) (y : Fin 128) : half0 x0 (ix3 0 r y) = x0 (ix3 0 r ⟨128 * 0 + y.val, by omega⟩) := by
  unfold half0
  rw [View.ld_apply]
  blk_ext []
  · show 0 + 1 * r.val = r.val
    omega
  · show 0 + 1 * y.val = 128 * 0 + y.val
    omega

theorem half1_at (x0 : Vec Ideal S1x256x256 .bf16) (r : Fin 256) (y : Fin 128) : half1 x0 (ix3 0 r y) = x0 (ix3 0 r ⟨128 * 1 + y.val, by omega⟩) := by
  unfold half1
  rw [View.ld_apply]
  blk_ext []
  · show 0 + 1 * r.val = r.val
    omega
  · show 128 + 1 * y.val = 128 + y.val
    omega

section loops

variable (c : Dev nD) (i : grid0.Coords) (arg2 : Memref sig .tc .vmem S1x256x256 .bf16) (harg2 : arg2.IsWhole) (arg3 : Memref sig .tc .vmem S1x8448x256 .bf16) (harg3 : arg3.IsWhole) (arg4 : Memref sig .tc .vmem S1x8448x256 .bf16) (harg4 : arg4.IsWhole) (arg5 : Memref sig .tc .vmem S1x256x256 .bf16) (harg5 : arg5.IsWhole)
  (x0 : Vec Ideal S1x256x256 .bf16) (x1 x2 : Vec Ideal S1x8448x256 .bf16)

/-- A trip of the first loop. -/
theorem trip1 (h2 : k0_cond2 i = 1#1) (q : Vec Ideal S1x256x128 .bf16) (k : Fin k0_t1_loop.trips) (acc) (inb : ∀ a, k0_off3 k a + (![1, 768, 128] : Fin 3 → ℕ) a ≤ S1x8448x256.size a) :
    tripR_k0_t1 (F := Ideal) Variants.none c none i arg2 harg2 arg3 harg3 arg4 harg4 arg5 harg5 h2 q (harg3.unread x1) (harg4.unread x2) k acc
      = (k0_pay5 (F := Ideal) (k0_pay37 q) acc.1 (View.ld x1 (Rect.unit (s := S1x8448x256) (k0_off3 k) ![1, 768, 128] inb)),
        k0_pay8 (F := Ideal) (k0_pay37 q) acc.1 acc.2.1 (View.ld x1 (Rect.unit (s := S1x8448x256) (k0_off3 k) ![1, 768, 128] inb)),
        k0_pay9 (F := Ideal) (k0_pay37 q) acc.1 acc.2.2 (View.ld x1 (Rect.unit (s := S1x8448x256) (k0_off3 k) ![1, 768, 128] inb))
          (View.ld x2 (Rect.unit (s := S1x8448x256) (k0_off3 k) ![1, 768, 128] inb))) := by
  unfold tripR_k0_t1 trip_k0_t1
  dsimp only
  simp only [View.readAt_eq_ld, Memref.IsWhole.read_unread]
  rfl

/-- A trip of the second loop. -/
theorem trip2 (h2 : k0_cond2 i = 1#1) (q2 : Vec Ideal S512x128 .bf16) (k : Fin k0_t2_loop.trips) (acc) (inb : ∀ a, k0_off4 k a + (![1, 768, 128] : Fin 3 → ℕ) a ≤ S1x8448x256.size a) :
    tripR_k0_t2 (F := Ideal) Variants.none c none i arg2 harg2 arg3 harg3 arg4 harg4 arg5 harg5 h2 q2 (harg3.unread x1) (harg4.unread x2) k acc
      = (k0_pay5 (F := Ideal) q2 acc.1 (View.ld x1 (Rect.unit (s := S1x8448x256) (k0_off4 k) ![1, 768, 128] inb)),
        k0_pay8 (F := Ideal) q2 acc.1 acc.2.1 (View.ld x1 (Rect.unit (s := S1x8448x256) (k0_off4 k) ![1, 768, 128] inb)),
        k0_pay9 (F := Ideal) q2 acc.1 acc.2.2 (View.ld x1 (Rect.unit (s := S1x8448x256) (k0_off4 k) ![1, 768, 128] inb))
          (View.ld x2 (Rect.unit (s := S1x8448x256) (k0_off4 k) ![1, 768, 128] inb))) := by
  unfold tripR_k0_t2 trip_k0_t2
  dsimp only
  simp only [View.readAt_eq_ld, Memref.IsWhole.read_unread]

/-- Before trip `k` of the first loop the state is that of the keys seen. -/
theorem loop1 (h2 : k0_cond2 i = 1#1) (q : Vec Ideal S1x256x128 .bf16) (hs : ∀ R x, IsReal (scoreOf 0 (by omega) q x1 R x)) (k : ℕ) (hk : k ≤ 11) :
    Holds (scoreOf 0 (by omega) q x1) (valueOf 0 (by omega) x2) (seen k)
      (st_k0_t1 (F := Ideal) Variants.none c none i arg2 harg2 arg3 harg3 arg4 harg4 arg5 harg5 h2 q (harg3.unread x1) (harg4.unread x2) (k0_pay27, k0_pay28, k0_pay29) k).1
      (st_k0_t1 (F := Ideal) Variants.none c none i arg2 harg2 arg3 harg3 arg4 harg4 arg5 harg5 h2 q (harg3.unread x1) (harg4.unread x2) (k0_pay27, k0_pay28, k0_pay29) k).2.1
      (st_k0_t1 (F := Ideal) Variants.none c none i arg2 harg2 arg3 harg3 arg4 harg4 arg5 harg5 h2 q (harg3.unread x1) (harg4.unread x2) (k0_pay27, k0_pay28, k0_pay29) k).2.2 := by
  induction k with
  | zero =>
    rw [st_k0_t1_zero, seen_zero]
    exact holds_empty _ _ _ _ _ (fun R => rfl) (fun R => Ideal.ofBits_zero_f32) (fun R y => Ideal.ofBits_zero_f32)
  | succ k ih =>
    have hlt : k < k0_t1_loop.trips := lt_of_lt_of_eq (by omega : k < 11) (by decide)
    have hc : 768 * k + 768 ≤ 8448 := by omega
    have inb : ∀ a, k0_off3 ⟨k, hlt⟩ a + (![1, 768, 128] : Fin 3 → ℕ) a ≤ S1x8448x256.size a := by
      intro a
      rw [k0_off3_eq]
      fin_cases a
      · show 0 + 1 ≤ 1; omega
      · show 768 * k + 768 ≤ 8448; omega
      · show 0 + 128 ≤ 256; omega
    have e := trip1 c i arg2 harg2 arg3 harg3 arg4 harg4 arg5 harg5 x1 x2 h2 q ⟨k, hlt⟩ (st_k0_t1 (F := Ideal) Variants.none c none i arg2 harg2 arg3 harg3 arg4 harg4 arg5 harg5 h2 q (harg3.unread x1) (harg4.unread x2) (k0_pay27, k0_pay28, k0_pay29) k) inb
    have e' := (st_k0_t1_succ (F := Ideal) Variants.none c none i arg2 harg2 arg3 harg3 arg4 harg4 arg5 harg5 h2 q (harg3.unread x1) (harg4.unread x2) (k0_pay27, k0_pay28, k0_pay29) ⟨k, hlt⟩).trans e
    rw [e', seen_succ k hc]
    refine holds_step _ _ hs _ _ (seen_disjoint k hc) _ _ _ _ _ _ (fun R j => ?_) (fun j y => ?_) (ih (by omega))
    · rw [scores_at]
      exact Finset.sum_congr rfl fun y _ => congrArg _ (ld_lo x1 ⟨k, hlt⟩ hc inb j y)
    · exact ld_lo x2 ⟨k, hlt⟩ hc inb j y

/-- Before trip `k` of the second loop the state is that of the keys seen. -/
theorem loop2 (h2 : k0_cond2 i = 1#1) (q : Vec Ideal S1x256x128 .bf16) (hs : ∀ R x, IsReal (scoreOf 1 (by omega) q x1 R x)) (k : ℕ) (hk : k ≤ 11) :
    Holds (scoreOf 1 (by omega) q x1) (valueOf 1 (by omega) x2) (seen k)
      (st_k0_t2 (F := Ideal) Variants.none c none i arg2 harg2 arg3 harg3 arg4 harg4 arg5 harg5 h2 (k0_pay37 q) (harg3.unread x1) (harg4.unread x2) (k0_pay38, k0_pay2 (FloatOps.ofBits FTy.f32 0#32), k0_pay3) k).1
      (st_k0_t2 (F := Ideal) Variants.none c none i arg2 harg2 arg3 harg3 arg4 harg4 arg5 harg5 h2 (k0_pay37 q) (harg3.unread x1) (harg4.unread x2) (k0_pay38, k0_pay2 (FloatOps.ofBits FTy.f32 0#32), k0_pay3) k).2.1
      (st_k0_t2 (F := Ideal) Variants.none c none i arg2 harg2 arg3 harg3 arg4 harg4 arg5 harg5 h2 (k0_pay37 q) (harg3.unread x1) (harg4.unread x2) (k0_pay38, k0_pay2 (FloatOps.ofBits FTy.f32 0#32), k0_pay3) k).2.2 := by
  induction k with
  | zero =>
    rw [st_k0_t2_zero, seen_zero]
    exact holds_empty _ _ _ _ _ (fun R => rfl) (fun R => Ideal.ofBits_zero_f32) (fun R y => Ideal.ofBits_zero_f32)
  | succ k ih =>
    have hlt : k < k0_t2_loop.trips := lt_of_lt_of_eq (by omega : k < 11) (by decide)
    have hc : 768 * k + 768 ≤ 8448 := by omega
    have inb : ∀ a, k0_off4 ⟨k, hlt⟩ a + (![1, 768, 128] : Fin 3 → ℕ) a ≤ S1x8448x256.size a := by
      intro a
      rw [k0_off4_eq]
      fin_cases a
      · show 0 + 1 ≤ 1; omega
      · show 768 * k + 768 ≤ 8448; omega
      · show 128 + 128 ≤ 256; omega
    have e := trip2 c i arg2 harg2 arg3 harg3 arg4 harg4 arg5 harg5 x1 x2 h2 (k0_pay37 q) ⟨k, hlt⟩ (st_k0_t2 (F := Ideal) Variants.none c none i arg2 harg2 arg3 harg3 arg4 harg4 arg5 harg5 h2 (k0_pay37 q) (harg3.unread x1) (harg4.unread x2) (k0_pay38, k0_pay2 (FloatOps.ofBits FTy.f32 0#32), k0_pay3) k) inb
    have e' := (st_k0_t2_succ (F := Ideal) Variants.none c none i arg2 harg2 arg3 harg3 arg4 harg4 arg5 harg5 h2 (k0_pay37 q) (harg3.unread x1) (harg4.unread x2) (k0_pay38, k0_pay2 (FloatOps.ofBits FTy.f32 0#32), k0_pay3) ⟨k, hlt⟩).trans e
    rw [e', seen_succ k hc]
    refine holds_step _ _ hs _ _ (seen_disjoint k hc) _ _ _ _ _ _ (fun R j => ?_) (fun j y => ?_) (ih (by omega))
    · rw [scores_at]
      exact Finset.sum_congr rfl fun y _ => congrArg _ (ld_hi x1 ⟨k, hlt⟩ hc inb j y)
    · exact ld_hi x2 ⟨k, hlt⟩ hc inb j y

/-- What a point leaves, from the state of the two halves. -/
theorem stored_row (s0 s1 : Fin 512 → Fin 8448 → EReal) (v0 v1 : Fin 128 → Fin 8448 → EReal) (K : Finset (Fin 8448)) (m0 l0 m1 l1 : Vec Ideal S512x1 .f32) (a0 a1 : Vec Ideal S512x128 .f32)
    (h0 : Holds s0 v0 K m0 l0 a0) (h1 : Holds s1 v1 K m1 l1 a1) (r : Fin 256) (d : Fin 256) (S V : Fin 8448 → EReal)
    (e0 : ∀ (h : d.val < 128) (R : Fin 512), R.val = 256 * (d.val / 64) + r.val → s0 R = S ∧ v0 ⟨d.val, h⟩ = V)
    (e1 : ∀ (h : 128 ≤ d.val) (R : Fin 512), R.val = 256 * (d.val / 64 - 2) + r.val → s1 R = S ∧ v1 ⟨d.val - 128, by omega⟩ = V) :
    k0_pay10 (F := Ideal) (k0_pay36 l0 a0) l1 a1 (ix3 0 r d) = Ideal.div (mix S V K) (mass S K) := by
  rw [stored_at]
  split
  · rename_i h
    obtain ⟨e, e'⟩ := e0 h ⟨256 * (d.val / 64) + r.val, by omega⟩ rfl
    rw [quotient_at s0 v0 K m0 l0 a0 h0 r ⟨d.val, h⟩ ⟨256 * (d.val / 64) + r.val, by omega⟩ rfl, e, e']
  · rename_i h
    obtain ⟨e, e'⟩ := e1 (by omega) ⟨256 * (d.val / 64 - 2) + r.val, by omega⟩ rfl
    rw [quotient_at s1 v1 K m1 l1 a1 h1 r ⟨d.val - 128, by omega⟩ ⟨256 * (d.val / 64 - 2) + r.val, by omega⟩
      (by show 256 * (d.val / 64 - 2) + r.val = 256 * ((d.val - 128) / 64) + r.val; omega), e, e']

end loops

end Cert.Att

end
-- ==== Proof.Att.Blocks.lean ====
/-
  Where each window's block lies at each grid point, and the row a grid point writes.
-/
module

public import proofs.«01_k».proof.Proof.Att.Spec
public import proofs.«01_k».proof.Proof.Att.Sweep
public import Idealize.ShloMosaic.Lib.Claim

@[expose] public section

set_option maxRecDepth 16384

noncomputable section

open Idealize.ShloMosaic Idealize.ShloMosaic.TcCoe Idealize.SL.Sem
open Cert.Kernel3Ideal Cert.Kernel3Ideal.Gen
open Cert.Moe (IsReal)

namespace Cert.Att

/-- Point `t` works on batch `t / 33` and row block `t % 33`. -/
theorem idx : ∀ t : Fin cfg0.N,
    win0_0.index t = ![t.val / 33, t.val % 33, 4] ∧ win0_1.index t = ![t.val / 33, 0, 2] ∧ win0_2.index t = ![t.val / 33, 0, 3]
    ∧ win0_3.index t = ![t.val / 33, t.val % 33, 0] :=
  (by decide +kernel : ∀ t : Fin grid0.N, _)

variable [hF : Cert.Kernel3Ideal.Facts]
variable (m : (ℓ : Loc nD τ sig) → Buf (Elt Ideal) ℓ)

/-- The kernel's argument arrays as the heads. -/
def heads (c : Dev nD) : Heads where
  q b n d := m ((c : Thread nD τ).loc main_arg0) (ix3 b n ⟨1024 + d.val, by omega⟩)
  k b n d := m ((c : Thread nD τ).loc main_arg1) (ix3 b n ⟨512 + d.val, by omega⟩)
  v b n d := m ((c : Thread nD τ).loc main_arg1) (ix3 b n ⟨768 + d.val, by omega⟩)

/-- Point `t` works on row `n` of batch `b` at row `r` of its block. -/
def At (t : Fin cfg0.N) (r : Fin 256) (b : Fin 2) (n : Fin 8448) : Prop := b.val = t.val / 33 ∧ n.val = t.val % 33 * 256 + r.val

theorem blk0 (c : Dev nD) (t : Fin cfg0.N) (r : Fin 256) (b : Fin 2) (n : Fin 8448) (h : At t r b n) (d : Fin 256) :
    iblk m c 0 t (ix3 0 r d) = (heads m c).q b n d := by
  have hb := h.1
  have hn := h.2
  unfold heads
  blk_ext [iblk, V, idx t]

theorem blk1 (c : Dev nD) (t : Fin cfg0.N) (b : Fin 2) (hb : b.val = t.val / 33) (x : Fin 8448) (d : Fin 256) :
    iblk m c 1 t (ix3 0 x d) = (heads m c).k b x d := by
  unfold heads
  blk_ext [iblk, V, idx t]

theorem blk2 (c : Dev nD) (t : Fin cfg0.N) (b : Fin 2) (hb : b.val = t.val / 33) (x : Fin 8448) (d : Fin 256) :
    iblk m c 2 t (ix3 0 x d) = (heads m c).v b x d := by
  unfold heads
  blk_ext [iblk, V, idx t]

/-- The head a stacked row and a half of the columns stand for. -/
def headAt (a : ℕ) (ha : a < 2) (R : Fin 512) : Fin 4 := ⟨2 * a + R.val / 256, by omega⟩

/-- A stacked row's scores are the scores of its row in its head. -/
theorem score_at (a : ℕ) (ha : a < 2) (c : Dev nD) (t : Fin cfg0.N) (q : Vec Ideal S1x256x128 .bf16) (R : Fin 512) (b : Fin 2) (n : Fin 8448)
    (h : At t ⟨R.val % 256, by omega⟩ b n) (hq : ∀ (r : Fin 256) (y : Fin 128), q (ix3 0 r y) = iblk m c 0 t (ix3 0 r ⟨128 * a + y.val, by omega⟩)) :
    scoreOf a ha q (iblk m c 1 t) R = (heads m c).score b n (headAt a ha R) := by
  funext x
  unfold scoreOf
  rw [stacked_sum]
  unfold Heads.score
  refine Finset.sum_congr rfl fun y _ => ?_
  have e : (⟨128 * a + (64 * (R.val / 256) + y.val), by omega⟩ : Fin 256) = column (headAt a ha R) y := Fin.ext (by show 128 * a + (64 * (R.val / 256) + y.val) = 64 * (2 * a + R.val / 256) + y.val; omega)
  rw [hq, ← e, ← blk0 m c t _ b n h, ← blk1 m c t b h.1]

/-- The stacked rows' scores hold no infinity. -/
theorem score_real (hA : ∀ c, (heads m c).Finite) (a : ℕ) (ha : a < 2) (c : Dev nD) (t : Fin cfg0.N) (q : Vec Ideal S1x256x128 .bf16)
    (hq : ∀ (r : Fin 256) (y : Fin 128), q (ix3 0 r y) = iblk m c 0 t (ix3 0 r ⟨128 * a + y.val, by omega⟩)) (R : Fin 512) (x : Fin 8448) :
    IsReal (scoreOf a ha q (iblk m c 1 t) R x) := by
  have hN : t.val < 66 := lt_of_lt_of_eq t.isLt N_0
  rw [score_at m a ha c t q R ⟨t.val / 33, by omega⟩ ⟨t.val % 33 * 256 + R.val % 256, by omega⟩ ⟨rfl, rfl⟩ hq]
  exact (hA c).score _ _ _ _

/-- The row a point leaves is the attention's, when the two halves' states are those of the keys the row sees. -/
theorem row_at (hA : ∀ c, (heads m c).Finite) (c : Dev nD) (t : Fin cfg0.N) (r : Fin 256) (b : Fin 2) (n : Fin 8448) (h : At t r b n)
    (m0 l0 m1 l1 : Vec Ideal S512x1 .f32) (a0 a1 : Vec Ideal S512x128 .f32)
    (h0 : Holds (scoreOf 0 (by omega) (half0 (iblk m c 0 t)) (iblk m c 1 t)) (valueOf 0 (by omega) (iblk m c 2 t)) (keys n) m0 l0 a0)
    (h1 : Holds (scoreOf 1 (by omega) (half1 (iblk m c 0 t)) (iblk m c 1 t)) (valueOf 1 (by omega) (iblk m c 2 t)) (keys n) m1 l1 a1) (d : Fin 256) :
    k0_pay10 (F := Ideal) (k0_pay36 l0 a0) l1 a1 (ix3 0 r d) = (heads m c).out b n d := by
  rw [(hA c).out]
  refine stored_row _ _ _ _ _ _ _ _ _ _ _ h0 h1 r d _ _ (fun hd R hR => ⟨?_, ?_⟩) (fun hd R hR => ⟨?_, ?_⟩)
  · have e : (⟨R.val % 256, by omega⟩ : Fin 256) = r := Fin.ext (by show R.val % 256 = r.val; omega)
    rw [score_at m 0 _ c t _ R b n (by rw [e]; exact h) (half0_at _)]
    congr 1
    exact Fin.ext (by show 2 * 0 + R.val / 256 = d.val / 64; omega)
  · funext x
    unfold valueOf
    rw [blk2 m c t b h.1]
    congr 1
    exact Fin.ext (by show 128 * 0 + d.val = d.val; omega)
  · have e : (⟨R.val % 256, by omega⟩ : Fin 256) = r := Fin.ext (by show R.val % 256 = r.val; omega)
    rw [score_at m 1 _ c t _ R b n (by rw [e]; exact h) (half1_at _)]
    congr 1
    exact Fin.ext (by show 2 * 1 + R.val / 256 = d.val / 64; omega)
  · funext x
    unfold valueOf
    rw [blk2 m c t b h.1]
    congr 1
    exact Fin.ext (by show 128 * 1 + (d.val - 128) = d.val; omega)

/-- What a context point leaves. -/
theorem out_context (c : Dev nD) (t : Fin cfg0.N) (h0 : t.val % 33 = 0) (h1 : ¬1 ≤ t.val % 33) : ∃ inb1 inb2,
    outsAt0 m c t.val t.isLt = k0_pay1 (F := Ideal) (k0_pay18 (k0_pay16 (half0 (iblk m c 0 t)) (View.ld (iblk m c 1 t) (Rect.unit (s := S1x8448x256) k0_off1 ![1, 256, 128] inb1)))
        (k0_pay17 (half0 (iblk m c 0 t)) (View.ld (iblk m c 1 t) (Rect.unit (s := S1x8448x256) k0_off1 ![1, 256, 128] inb1)) (View.ld (iblk m c 2 t) (Rect.unit (s := S1x8448x256) k0_off1 ![1, 256, 128] inb1))))
      k0_pay20 (k0_pay21 (View.ld (iblk m c 2 t) (Rect.unit (s := S1x8448x256) k0_off2 ![1, 256, 128] inb2)))
      (k0_pay24 (half1 (iblk m c 0 t)) (View.ld (iblk m c 1 t) (Rect.unit (s := S1x8448x256) k0_off2 ![1, 256, 128] inb2)))
      (k0_pay25 (half1 (iblk m c 0 t)) (View.ld (iblk m c 1 t) (Rect.unit (s := S1x8448x256) k0_off2 ![1, 256, 128] inb2)))
      (k0_pay26 (half1 (iblk m c 0 t)) (View.ld (iblk m c 1 t) (Rect.unit (s := S1x8448x256) k0_off2 ![1, 256, 128] inb2))) := by
  have inb1 : ∀ a, k0_off1 a + (![1, 256, 128] : Fin 3 → ℕ) a ≤ S1x8448x256.size a := by rw [k0_off1_eq]; decide
  have inb2 : ∀ a, k0_off2 a + (![1, 256, 128] : Fin 3 → ℕ) a ≤ S1x8448x256.size a := by rw [k0_off2_eq]; decide
  refine ⟨inb1, inb2, ?_⟩
  rw [outsAt0_A m c t h0 h1]
  frame_out
  rfl

/-- What a latents' point leaves. -/
theorem out_latents (c : Dev nD) (t : Fin cfg0.N) (h0 : ¬t.val % 33 = 0) (h1 : 1 ≤ t.val % 33) : ∃ s0 s1 : FVec Ideal S512x1 .f32 × FVec Ideal S512x1 .f32 × FVec Ideal S512x128 .f32,
    s0 = st_k0_t1 (F := Ideal) Variants.none c none (grid0.coords t) (ms0_0 t) (hs0_0 t) (ms0_1 t) (hs0_1 t) (ms0_2 t) (hs0_2 t) (ms0_3 t) (hs0_3 t) ((hcond0_1 t).mpr h1)
        (half0 (iblk m c 0 t)) ((hs0_1 t).unread (iblk m c 1 t)) ((hs0_2 t).unread (iblk m c 2 t)) (k0_pay27, k0_pay28, k0_pay29) 11
    ∧ s1 = st_k0_t2 (F := Ideal) Variants.none c none (grid0.coords t) (ms0_0 t) (hs0_0 t) (ms0_1 t) (hs0_1 t) (ms0_2 t) (hs0_2 t) (ms0_3 t) (hs0_3 t) ((hcond0_1 t).mpr h1)
        (k0_pay37 (half1 (iblk m c 0 t))) ((hs0_1 t).unread (iblk m c 1 t)) ((hs0_2 t).unread (iblk m c 2 t)) (k0_pay38, k0_pay2 (FloatOps.ofBits FTy.f32 0#32), k0_pay3) 11
    ∧ outsAt0 m c t.val t.isLt = k0_pay10 (F := Ideal) (k0_pay36 s0.2.1 s0.2.2) s1.2.1 s1.2.2 := by
  refine ⟨_, _, rfl, rfl, ?_⟩
  rw [outsAt0_B m c t h0 h1]
  frame_out
  have e : Scf.trips 0#32 (Scalar.addi 0#32 11#32) 1#32 = 11 := by decide
  rw [e]
  rfl

/-- The row a point leaves. -/
theorem written (hA : ∀ c, (heads m c).Finite) (c : Dev nD) (t : Fin cfg0.N) (r : Fin 256) (b : Fin 2) (n : Fin 8448) (h : At t r b n) (d : Fin 256) :
    outsAt0 m c t.val t.isLt (ix3 0 r d) = (heads m c).out b n d := by
  have hn := h.2
  by_cases h0 : t.val % 33 = 0
  · obtain ⟨inb1, inb2, e⟩ := out_context m c t h0 (by omega)
    have hk : keys n = Finset.univ.map (chunk 256 0 (by omega)) := by
      unfold keys
      rw [if_pos (by omega)]
    rw [e, stored_context]
    refine row_at m hA c t r b n h (k0_pay13 (half0 (iblk m c 0 t)) (View.ld (iblk m c 1 t) (Rect.unit (s := S1x8448x256) k0_off1 ![1, 256, 128] inb1))) _
      (k0_pay13 (half1 (iblk m c 0 t)) (View.ld (iblk m c 1 t) (Rect.unit (s := S1x8448x256) k0_off2 ![1, 256, 128] inb2))) _ _ _ ?_ ?_ d
    · rw [hk]
      refine holds_context _ _ (score_real m hA 0 _ c t _ (half0_at _)) _ _ _ _ (fun R j => ?_) (fun j y => ?_)
      · rw [scores1_at]
        exact Finset.sum_congr rfl fun y _ => congrArg _ (ld_lo1 _ inb1 j y)
      · exact ld_lo1 _ inb1 j y
    · rw [hk]
      refine holds_context _ _ (score_real m hA 1 _ c t _ (half1_at _)) _ _ _ _ (fun R j => ?_) (fun j y => ?_)
      · rw [scores1_at]
        exact Finset.sum_congr rfl fun y _ => congrArg _ (ld_hi1 _ inb2 j y)
      · exact ld_hi1 _ inb2 j y
  · obtain ⟨s0, s1, e0, e1, e⟩ := out_latents m c t h0 (by omega)
    have hk : keys n = seen 11 := by
      unfold keys
      rw [if_neg (by omega), seen_all]
    rw [e]
    refine row_at m hA c t r b n h s0.1 _ s1.1 _ _ _ ?_ ?_ d
    · rw [hk, e0]
      exact loop1 c _ _ _ _ _ _ _ _ _ _ _ _ _ (score_real m hA 0 _ c t _ (half0_at _)) 11 le_rfl
    · rw [hk, e1]
      exact loop2 c _ _ _ _ _ _ _ _ _ _ _ _ _ (score_real m hA 1 _ c t _ (half1_at _)) 11 le_rfl

end Cert.Att

end
-- ==== Proof.Att.Reference.lean ====
/-
  What the reference of the global attention computes at a row.
-/
module

public import proofs.«01_k».proof.Proof.Gen.Reference3Ideal.Run
public import proofs.«01_k».proof.Proof.Att.Chunk
public import proofs.«01_k».proof.Proof.Att.Spec

@[expose] public section

set_option maxRecDepth 16384

noncomputable section

open Idealize.ShloMosaic Idealize.ShloMosaic.TcCoe Idealize.SL.Sem
open Cert.Reference3Ideal Cert.Reference3Ideal.Gen Cert.Reference3Ideal.Value

namespace Cert.Att.Reference

variable [hF : Cert.Reference3Ideal.Facts]

/-- The queries, the keys and the values, head by head. -/
def queriesOf (p : FVec Ideal S2x8448x2560 .bf16) : FVec Ideal S2x8448x4x64 .f32 :=
  shapeCast _ (extf .f32 (extractStridedSlice S2x8448x256 ![0, 0, 1024] p slices_S2x8448x2560_S2x8448x256_0_0_1024) bitsLt_bf16_f32) shapeCasts_S2x8448x256_S2x8448x4x64

theorem queriesOf_at (p : FVec Ideal S2x8448x2560 .bf16) (b : Fin 2) (n : Fin 8448) (h : Fin 4) (y : Fin 64) :
    queriesOf p (ix4 b n h y) = p (ix3 b n ⟨1024 + (column h y).val, by omega⟩) := by
  pointwise [queriesOf]
  exact congrArg p (congrArg (ix3 b n) (Fin.ext (by show 1024 + (h.val * 64 + y.val) = 1024 + (64 * h.val + y.val); omega)))

def keysOf (kv : FVec Ideal S2x8448x1024 .bf16) : FVec Ideal S2x8448x4x64 .f32 :=
  shapeCast _ (extf .f32 (extractStridedSlice S2x8448x256 ![0, 0, 512] kv slices_S2x8448x1024_S2x8448x256_0_0_512) bitsLt_bf16_f32) shapeCasts_S2x8448x256_S2x8448x4x64

theorem keysOf_at (kv : FVec Ideal S2x8448x1024 .bf16) (b : Fin 2) (n : Fin 8448) (h : Fin 4) (y : Fin 64) :
    keysOf kv (ix4 b n h y) = kv (ix3 b n ⟨512 + (column h y).val, by omega⟩) := by
  pointwise [keysOf]
  exact congrArg kv (congrArg (ix3 b n) (Fin.ext (by show 512 + (h.val * 64 + y.val) = 512 + (64 * h.val + y.val); omega)))

def valuesOf (kv : FVec Ideal S2x8448x1024 .bf16) : FVec Ideal S2x8448x4x64 .f32 :=
  shapeCast _ (extf .f32 (extractStridedSlice S2x8448x256 ![0, 0, 768] kv slices_S2x8448x1024_S2x8448x256_0_0_768) bitsLt_bf16_f32) shapeCasts_S2x8448x256_S2x8448x4x64

theorem valuesOf_at (kv : FVec Ideal S2x8448x1024 .bf16) (b : Fin 2) (n : Fin 8448) (h : Fin 4) (y : Fin 64) :
    valuesOf kv (ix4 b n h y) = kv (ix3 b n ⟨768 + (column h y).val, by omega⟩) := by
  pointwise [valuesOf]
  exact congrArg kv (congrArg (ix3 b n) (Fin.ext (by show 768 + (h.val * 64 + y.val) = 768 + (64 * h.val + y.val); omega)))

/-! ## The context's rows -/

def headOf1 (v : FVec Ideal S2x8448x4x64 .f32) : FVec Ideal S2x256x4x64 .f32 := extractStridedSlice S2x256x4x64 ![0, 0, 0, 0] v slices_S2x8448x4x64_S2x256x4x64_0_0_0_0

theorem headOf1_at (v : FVec Ideal S2x8448x4x64 .f32) (b : Fin 2) (n : Fin 256) (h : Fin 4) (y : Fin 64) :
    headOf1 v (ix4 b n h y) = v (ix4 b (⟨n.val, by omega⟩ : Fin 8448) h y) := by
  pointwise [headOf1]

def scores1 (q k : FVec Ideal S2x256x4x64 .f32) : FVec Ideal S2x4x256x256 .f32 := Host.dotGeneral dot_S2x256x4x64_S2x256x4x64_S2x4x256x256_3_3_1_1_02_02 none q k

theorem scores1_at (q k : FVec Ideal S2x256x4x64 .f32) (b : Fin 2) (h : Fin 4) (n x : Fin 256) :
    scores1 q k (ix4 b h n x) = ∑ y : Fin 64, q (ix4 b n h y) * k (ix4 b x h y) := by
  pointwise [scores1]

def top1 (S : FVec Ideal S2x4x256x256 .f32) : FVec Ideal S2x4x256 .f32 :=
  Host.reduce FloatOps.maximumf S (constant S_ .f32 0xFF800000#32) reducesTo_S2x4x256x256_S2x4x256_d3 h_S_

theorem top1_at (S : FVec Ideal S2x4x256x256 .f32) (b : Fin 2) (h : Fin 4) (n : Fin 256) :
    top1 S (ix3 b h n) = Finset.univ.fold max (Ideal.ofBits .f32 4286578688#32) fun j : Fin 256 => S (ix4 b h n j) := by
  pointwise [top1]

def numer1 (S : FVec Ideal S2x4x256x256 .f32) (T : FVec Ideal S2x4x256 .f32) : FVec Ideal S2x4x256x256 .f32 :=
  Host.exp (subf S (broadcastInDim S2x4x256x256 ![0, 1, 2, 3] bcast_S2x4x256x1_S2x4x256x256_0_1_2_3 (broadcastInDim S2x4x256x1 ![0, 1, 2] bcast_S2x4x256_S2x4x256x1_0_1_2 (maximumf (broadcastInDim S2x4x256 ![] bcast_S_S2x4x256 (constant S_ .f32 0xFF800000#32)) T))))

theorem numer1_at (S : FVec Ideal S2x4x256x256 .f32) (T : FVec Ideal S2x4x256 .f32) (b : Fin 2) (h : Fin 4) (n : Fin 256) (x : Fin 256) :
    numer1 S T (ix4 b h n x) = Ideal.exp (S (ix4 b h n x) - max (Ideal.ofBits .f32 4286578688#32) (T (ix3 b h n))) := by
  pointwise [numer1]

def probs1 (E : FVec Ideal S2x4x256x256 .f32) : FVec Ideal S2x4x256x256 .f32 :=
  Host.divf E (broadcastInDim S2x4x256x256 ![0, 1, 2, 3] bcast_S2x4x256x1_S2x4x256x256_0_1_2_3 (broadcastInDim S2x4x256x1 ![0, 1, 2] bcast_S2x4x256_S2x4x256x1_0_1_2 (Host.reduceAdd E (constant S_ .f32 0x00000000#32) reducesTo_S2x4x256x256_S2x4x256_d3 h_S_)))

theorem probs1_at (E : FVec Ideal S2x4x256x256 .f32) (b : Fin 2) (h : Fin 4) (n x : Fin 256) :
    probs1 E (ix4 b h n x) = Ideal.div (E (ix4 b h n x)) (∑ j : Fin 256, E (ix4 b h n j)) := by
  pointwise [probs1]

def mixed1 (v : FVec Ideal S2x256x4x64 .f32) (P : FVec Ideal S2x4x256x256 .f32) : FVec Ideal S2x256x256 .f32 :=
  shapeCast _ (transpose S2x256x4x64 [0, 3, 1, 2] (Host.dotGeneral dot_S2x256x4x64_S2x4x256x256_S2x4x64x256_1_3_3_2_02_01 none v P) transposes_S2x4x64x256_S2x256x4x64_0_3_1_2) shapeCasts_S2x256x4x64_S2x256x256

theorem mixed1_at (v : FVec Ideal S2x256x4x64 .f32) (P : FVec Ideal S2x4x256x256 .f32) (b : Fin 2) (n : Fin 256) (d : Fin 256) :
    mixed1 v P (ix3 b n d) = ∑ x : Fin 256, v (ix4 b x (headOf d) (⟨d.val % 64, by omega⟩ : Fin 64)) * P (ix4 b (headOf d) n x) := by
  pointwise [mixed1]
  rfl

/-! ## The latents' rows -/

def headOf2 (v : FVec Ideal S2x8448x4x64 .f32) : FVec Ideal S2x8192x4x64 .f32 := extractStridedSlice S2x8192x4x64 ![0, 256, 0, 0] v slices_S2x8448x4x64_S2x8192x4x64_0_256_0_0

theorem headOf2_at (v : FVec Ideal S2x8448x4x64 .f32) (b : Fin 2) (n : Fin 8192) (h : Fin 4) (y : Fin 64) :
    headOf2 v (ix4 b n h y) = v (ix4 b (⟨256 + n.val, by omega⟩ : Fin 8448) h y) := by
  pointwise [headOf2]

def scores2 (q : FVec Ideal S2x8192x4x64 .f32) (k : FVec Ideal S2x8448x4x64 .f32) : FVec Ideal S2x4x8192x8448 .f32 := Host.dotGeneral dot_S2x8192x4x64_S2x8448x4x64_S2x4x8192x8448_3_3_1_1_02_02 none q k

theorem scores2_at (q : FVec Ideal S2x8192x4x64 .f32) (k : FVec Ideal S2x8448x4x64 .f32) (b : Fin 2) (h : Fin 4) (n : Fin 8192) (x : Fin 8448) :
    scores2 q k (ix4 b h n x) = ∑ y : Fin 64, q (ix4 b n h y) * k (ix4 b x h y) := by
  pointwise [scores2]

def top2 (S : FVec Ideal S2x4x8192x8448 .f32) : FVec Ideal S2x4x8192 .f32 :=
  Host.reduce FloatOps.maximumf S (constant S_ .f32 0xFF800000#32) reducesTo_S2x4x8192x8448_S2x4x8192_d3 h_S_

theorem top2_at (S : FVec Ideal S2x4x8192x8448 .f32) (b : Fin 2) (h : Fin 4) (n : Fin 8192) :
    top2 S (ix3 b h n) = Finset.univ.fold max (Ideal.ofBits .f32 4286578688#32) fun j : Fin 8448 => S (ix4 b h n j) := by
  pointwise [top2]

def numer2 (S : FVec Ideal S2x4x8192x8448 .f32) (T : FVec Ideal S2x4x8192 .f32) : FVec Ideal S2x4x8192x8448 .f32 :=
  Host.exp (subf S (broadcastInDim S2x4x8192x8448 ![0, 1, 2, 3] bcast_S2x4x8192x1_S2x4x8192x8448_0_1_2_3 (broadcastInDim S2x4x8192x1 ![0, 1, 2] bcast_S2x4x8192_S2x4x8192x1_0_1_2 (maximumf (broadcastInDim S2x4x8192 ![] bcast_S_S2x4x8192 (constant S_ .f32 0xFF800000#32)) T))))

theorem numer2_at (S : FVec Ideal S2x4x8192x8448 .f32) (T : FVec Ideal S2x4x8192 .f32) (b : Fin 2) (h : Fin 4) (n : Fin 8192) (x : Fin 8448) :
    numer2 S T (ix4 b h n x) = Ideal.exp (S (ix4 b h n x) - max (Ideal.ofBits .f32 4286578688#32) (T (ix3 b h n))) := by
  pointwise [numer2]

def probs2 (E : FVec Ideal S2x4x8192x8448 .f32) : FVec Ideal S2x4x8192x8448 .f32 :=
  Host.divf E (broadcastInDim S2x4x8192x8448 ![0, 1, 2, 3] bcast_S2x4x8192x1_S2x4x8192x8448_0_1_2_3 (broadcastInDim S2x4x8192x1 ![0, 1, 2] bcast_S2x4x8192_S2x4x8192x1_0_1_2 (Host.reduceAdd E (constant S_ .f32 0x00000000#32) reducesTo_S2x4x8192x8448_S2x4x8192_d3 h_S_)))

theorem probs2_at (E : FVec Ideal S2x4x8192x8448 .f32) (b : Fin 2) (h : Fin 4) (n : Fin 8192) (x : Fin 8448) :
    probs2 E (ix4 b h n x) = Ideal.div (E (ix4 b h n x)) (∑ j : Fin 8448, E (ix4 b h n j)) := by
  pointwise [probs2]

def mixed2 (v : FVec Ideal S2x8448x4x64 .f32) (P : FVec Ideal S2x4x8192x8448 .f32) : FVec Ideal S2x8192x256 .f32 :=
  shapeCast _ (transpose S2x8192x4x64 [0, 3, 1, 2] (Host.dotGeneral dot_S2x8448x4x64_S2x4x8192x8448_S2x4x64x8192_1_3_3_2_02_01 none v P) transposes_S2x4x64x8192_S2x8192x4x64_0_3_1_2) shapeCasts_S2x8192x4x64_S2x8192x256

theorem mixed2_at (v : FVec Ideal S2x8448x4x64 .f32) (P : FVec Ideal S2x4x8192x8448 .f32) (b : Fin 2) (n : Fin 8192) (d : Fin 256) :
    mixed2 v P (ix3 b n d) = ∑ x : Fin 8448, v (ix4 b x (headOf d) (⟨d.val % 64, by omega⟩ : Fin 64)) * P (ix4 b (headOf d) n x) := by
  pointwise [mixed2]
  rfl

/-- The context's rows above the latents'. -/
def resultOf (a : FVec Ideal S2x256x256 .f32) (l : FVec Ideal S2x8192x256 .f32) : FVec Ideal S2x8448x256 .bf16 :=
  truncf .bf16 (concatenate S2x8448x256 1 [⟨S2x256x256, a⟩, ⟨S2x8192x256, l⟩] concatenates_S2x256x256_S2x8192x256_S2x8448x256_d1) bitsLt_bf16_f32

theorem resultOf_at (a : FVec Ideal S2x256x256 .f32) (l : FVec Ideal S2x8192x256 .f32) (b : Fin 2) (n : Fin 8448) (d : Fin 256) :
    resultOf a l (ix3 b n d) = if h : n.val < 256 then a (ix3 b ⟨n.val, h⟩ d) else l (ix3 b ⟨n.val - 256, by omega⟩ d) := by
  pointwise [resultOf]

/-- The arguments as the heads. -/
def headsOf (p : FVec Ideal S2x8448x2560 .bf16) (kv : FVec Ideal S2x8448x1024 .bf16) : Heads where
  q b n d := p (ix3 b n ⟨1024 + d.val, by omega⟩)
  k b n d := kv (ix3 b n ⟨512 + d.val, by omega⟩)
  v b n d := kv (ix3 b n ⟨768 + d.val, by omega⟩)

theorem valuesOf_column (p : FVec Ideal S2x8448x2560 .bf16) (kv : FVec Ideal S2x8448x1024 .bf16) (b : Fin 2) (n : Fin 8448) (d : Fin 256) :
    valuesOf kv (ix4 b n (headOf d) (⟨d.val % 64, by omega⟩ : Fin 64)) = (headsOf p kv).v b n d := by
  rw [valuesOf_at]
  exact congrArg kv (congrArg (ix3 b n) (Fin.ext (by show 768 + (64 * (d.val / 64) + d.val % 64) = 768 + d.val; omega)))

theorem floor_eq : Ideal.ofBits .f32 4286578688#32 = ⊥ := by simp [Ideal.ofBits, Ideal.ieee]

section rows
variable (p : FVec Ideal S2x8448x2560 .bf16) (kv : FVec Ideal S2x8448x1024 .bf16)

/-- The context's scores and the latents'. -/
def scoresC : FVec Ideal S2x4x256x256 .f32 := scores1 (headOf1 (queriesOf p)) (headOf1 (keysOf kv))
def scoresL : FVec Ideal S2x4x8192x8448 .f32 := scores2 (headOf2 (queriesOf p)) (keysOf kv)

theorem scoresC_at (b : Fin 2) (h : Fin 4) (n : Fin 8448) (hn : n.val < 256) (x : Fin 256) :
    scoresC p kv (ix4 b h ⟨n.val, hn⟩ x) = (headsOf p kv).score b n h (chunk 256 0 (by omega) x) := by
  have ex : (⟨x.val, by omega⟩ : Fin 8448) = chunk 256 0 (by omega) x := Fin.ext (by show x.val = 256 * 0 + x.val; omega)
  unfold scoresC
  rw [scores1_at]
  simp only [headOf1_at, queriesOf_at, keysOf_at, ex]
  rfl

theorem scoresL_at (b : Fin 2) (h : Fin 4) (n : Fin 8448) (hn : ¬ n.val < 256) (x : Fin 8448) :
    scoresL p kv (ix4 b h ⟨n.val - 256, by omega⟩ x) = (headsOf p kv).score b n h x := by
  have en : (⟨256 + (n.val - 256), by omega⟩ : Fin 8448) = n := Fin.ext (by show 256 + (n.val - 256) = n.val; omega)
  unfold scoresL
  rw [scores2_at]
  simp only [headOf2_at, queriesOf_at, keysOf_at, en]
  rfl

/-- The context's rows and the latents'. -/
def rowsC : FVec Ideal S2x256x256 .f32 := mixed1 (headOf1 (valuesOf kv)) (probs1 (numer1 (scoresC p kv) (top1 (scoresC p kv))))
def rowsL : FVec Ideal S2x8192x256 .f32 := mixed2 (valuesOf kv) (probs2 (numer2 (scoresL p kv) (top2 (scoresL p kv))))

theorem rowsC_at (b : Fin 2) (n : Fin 8448) (hn : n.val < 256) (d : Fin 256) : rowsC p kv (ix3 b ⟨n.val, hn⟩ d) = (headsOf p kv).out b n d := by
  unfold rowsC Heads.out keys
  rw [if_pos hn, mixed1_at, Finset.sum_map]
  refine Finset.sum_congr rfl fun x _ => ?_
  have ex : (⟨x.val, by omega⟩ : Fin 8448) = chunk 256 0 (by omega) x := Fin.ext (by show x.val = 256 * 0 + x.val; omega)
  rw [mul_comm, probs1_at, headOf1_at, valuesOf_column p, ex]
  simp only [numer1_at, top1_at, scoresC_at p kv b _ n hn, fold_max_sup]
  unfold mass
  rw [Finset.sum_map, Finset.sup_map, floor_eq, max_bot_left]
  rfl

theorem rowsL_at (b : Fin 2) (n : Fin 8448) (hn : ¬ n.val < 256) (d : Fin 256) : rowsL p kv (ix3 b ⟨n.val - 256, by omega⟩ d) = (headsOf p kv).out b n d := by
  unfold rowsL Heads.out keys
  rw [if_neg hn, mixed2_at]
  refine Finset.sum_congr rfl fun x _ => ?_
  rw [mul_comm, probs2_at, valuesOf_column p]
  simp only [numer2_at, top2_at, scoresL_at p kv b _ n hn, fold_max_sup]
  unfold mass
  rw [floor_eq, max_bot_left]

end rows

variable (m : (ℓ : Loc nD τ sig) → Buf (Elt Ideal) ℓ) (c : Dev nD)

/-- The reference's result array is the composition of these. -/
theorem result_eq : res_main_v44 (F := Ideal) m c
    = resultOf (rowsC (m ((c.tc : Thread nD τ).loc main_arg0)) (m ((c.tc : Thread nD τ).loc main_arg1)))
      (rowsL (m ((c.tc : Thread nD τ).loc main_arg0)) (m ((c.tc : Thread nD τ).loc main_arg1))) := rfl

/-- The reference's argument arrays as the heads. -/
def heads : Heads := headsOf (m ((c.tc : Thread nD τ).loc main_arg0)) (m ((c.tc : Thread nD τ).loc main_arg1))

/-- The reference's row. -/
theorem out_at (b : Fin 2) (n : Fin 8448) (d : Fin 256) : res_main_v44 (F := Ideal) m c (ix3 b n d) = (heads m c).out b n d := by
  rw [result_eq, resultOf_at]
  split
  · exact rowsC_at _ _ b n _ d
  · exact rowsL_at _ _ b n (by assumption) d

end Cert.Att.Reference

end
-- ==== Proof.Att.Equation.lean ====
/-
  The two result arrays of the global attention, row by row.
-/
module

public import proofs.«01_k».proof.Proof.Att.Blocks
public import proofs.«01_k».proof.Proof.Att.Reference

@[expose] public section

set_option maxRecDepth 16384

noncomputable section

open Idealize.ShloMosaic Idealize.ShloMosaic.TcCoe Idealize.SL.Sem

namespace Cert.Att

section kernel
open Cert.Kernel3Ideal Cert.Kernel3Ideal.Gen Cert.Kernel3Ideal.Value
variable [hF : Cert.Kernel3Ideal.Facts]
variable (m : (ℓ : Loc nD τ sig) → Buf (Elt Ideal) ℓ)

/-- Every point writes its block back. -/
theorem flushes : ∀ t : Fin cfg0.N, (cfg0.win 3).flush t = true :=
  (by decide +kernel : ∀ t : Fin grid0.N, win0_3.flush t = true)

/-- Where a point's block lies in the result array. -/
theorem emb_at (t : Fin cfg0.N) (r : Fin 256) (b : Fin 2) (n : Fin 8448) (h : At t r b n) (d : Fin 256) :
    (((cfg0.win 3).blk t).view.emb (ix3 0 r d) : S2x8448x256.Idx) = ix3 b n d := by
  obtain ⟨-, -, -, hx⟩ := idx t
  obtain ⟨hb, hn⟩ := h
  funext a
  refine Fin.ext ?_
  match a with
  | ⟨0, _⟩ =>
    show win0_3.index t (0 : Fin 3) * 1 + 1 * 0 = b.val
    rw [hx]
    show t.val / 33 * 1 + 1 * 0 = b.val
    omega
  | ⟨1, _⟩ =>
    show win0_3.index t (1 : Fin 3) * 256 + 1 * r.val = n.val
    rw [hx]
    show t.val % 33 * 256 + 1 * r.val = n.val
    omega
  | ⟨2, _⟩ =>
    show win0_3.index t (2 : Fin 3) * 256 + 1 * d.val = d.val
    rw [hx]
    show 0 * 256 + 1 * d.val = d.val
    omega

theorem inj_at (t : Fin cfg0.N) (r d : Fin 256) : ((cfg0.win 3).xinj (grid0.coords t) (ix3 0 r d) : S1x256x256.Idx) = ix3 0 r d := by
  funext a
  refine Fin.ext ?_
  match a with
  | ⟨0, _⟩ => rfl
  | ⟨1, _⟩ => rfl
  | ⟨2, _⟩ => rfl

/-- The kernel's result array at a row, from the point that writes it. -/
theorem array_of (c : Dev nD) (t : Fin cfg0.N) (r : Fin 256) (b : Fin 2) (n : Fin 8448) (h : At t r b n) (d : Fin 256) :
    (dats m 0 c).arrAt 3 cfg0.N (ix3 b n d) = outsAt0 m c t.val t.isLt (ix3 0 r d) := by
  rw [← emb_at t r b n h d]
  refine ((dats m 0 c).arrAt_emb_eq_flushed 3 disjoint3 t (flushes t) _).trans ?_
  refine (cast_eq _ _).trans ?_
  rw [flushed3, Pipeline.Window.cut_apply]
  exact congrArg (outsAt0 m c t.val t.isLt) (inj_at t r d)

/-- The kernel's result array at a row. -/
theorem array_at (hA : ∀ c, (heads m c).Finite) (c : Dev nD) (b : Fin 2) (n : Fin 8448) (d : Fin 256) :
    (dats m 0 c).arrAt 3 cfg0.N (ix3 b n d) = (heads m c).out b n d := by
  have hlt : 33 * b.val + n.val / 256 < cfg0.N := by
    rw [show cfg0.N = 66 from N_0]
    omega
  have h : At ⟨33 * b.val + n.val / 256, hlt⟩ ⟨n.val % 256, by omega⟩ b n :=
    ⟨by show b.val = (33 * b.val + n.val / 256) / 33; omega, by show n.val = (33 * b.val + n.val / 256) % 33 * 256 + n.val % 256; omega⟩
  exact (array_of m c _ _ b n h d).trans (written m hA c _ _ b n h d)

end kernel

/-- On equal arguments, the queries and the keys finite, the two result arrays are one. -/
theorem arrays_eq [hK : Cert.Kernel3Ideal.Facts] [hR : Cert.Reference3Ideal.Facts] (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (hA : ∀ c, (heads m c).Finite) (c : Dev Cert.Kernel3Ideal.nD)
    (h : Reference.heads m' c = heads m c) (b : Fin 2) (n : Fin 8448) (d : Fin 256) :
    Cert.Reference3Ideal.Value.res_main_v44 (F := Ideal) m' c (ix3 b n d) = (Cert.Kernel3Ideal.Gen.dats m 0 c).arrAt 3 Cert.Kernel3Ideal.cfg0.N (ix3 b n d) := by
  rw [Reference.out_at, array_at m hA, h]

end Cert.Att

end
-- ==== Proof.Att.Pre.lean ====
/-
  The precondition read back: the queries and the keys hold no infinity.
-/
module

public import proofs.«01_k».proof.Pre_finite_queries_and_keys
public import proofs.«01_k».proof.Proof.Att.Spec
public import Idealize.ShloMosaic.Lib.ReduceAll
public import Idealize.ShloMosaic.Lib.Affine

@[expose] public section

set_option maxRecDepth 16384

noncomputable section

open Idealize.ShloMosaic Idealize.ShloMosaic.TcCoe Idealize.SL.Sem
open Cert.Pre_finite_queries_and_keys
open Cert.Moe (IsReal)

namespace Cert.Att.Pre

theorem facts : Cert.Pre_finite_queries_and_keys.Facts where
  slices_S2x8448x2560_S2x8448x256_0_0_1024 := by decide
  bitsLt_bf16_f32 := by decide
  bcast_S_S2x8448x256 := by decide
  reducesTo_S2x8448x256_S_d0_1_2 := by decide
  h_S_ := by decide
  slices_S2x8448x1024_S2x8448x256_0_0_512 := by decide

variable [hF : Cert.Pre_finite_queries_and_keys.Facts]

instance : Subsingleton S_.Idx := ⟨fun a b => funext fun k => k.elim0⟩

theorem infinity : Ideal.ofBits .f32 2139095040#32 = ⊤ := by simp [Ideal.ofBits, Ideal.ieee]

/-- "Every absolute value is below `+∞`", read at an index. -/
theorem entry {s : Shape} {axes : List (Fin s.rank)} (x : FVec Ideal s .f32) (hb : S_.BroadcastsInDim s (![] : Fin 0 → Fin s.rank)) (hr : s.ReducesTo axes S_) (h0 : 0 < S_.numel) (k : S_.Idx)
    (h : Host.reduce IntOp.andi (cmpf .olt (Host.absf x) (broadcastInDim s ![] hb (constant (F := Ideal) S_ .f32 0x7F800000#32))) (constantI S_ 1 1#1) hr h0 k = 1#1) (i : s.Idx) : IsReal (x i) := by
  have e := Host.reduce_andi_all _ _ hr h0 k h i
  refine IsReal.of_abs ?_
  have e' : BitVec.ofBool (decide (max (x i) (-(x i)) < Ideal.ofBits .f32 2139095040#32)) = 1#1 := e
  rw [infinity] at e'
  by_contra hn
  rw [decide_eq_false hn] at e'
  exact absurd e' (by decide)

/-- What the precondition says. -/
theorem finite (A : Heads) (p : FVec Ideal S2x8448x2560 .bf16) (kv : FVec Ideal S2x8448x1024 .bf16)
    (hq : ∀ b n d, A.q b n d = p (ix3 b n ⟨1024 + d.val, by omega⟩)) (hk : ∀ b n d, A.k b n d = kv (ix3 b n ⟨512 + d.val, by omega⟩)) (k : S_.Idx)
    (h : Cert.Pre_finite_queries_and_keys.fn (F := Ideal) p kv k = 1#1) : A.Finite := by
  obtain ⟨h1, h2⟩ := IntOp.andi_eq_one.mp h
  refine ⟨fun b n d => ?_, fun b n d => ?_⟩
  · rw [hq]
    have e := entry _ _ _ _ k h1 (ix3 b n d)
    have r : extf (F := Ideal) .f32 (extractStridedSlice S2x8448x256 ![0, 0, 1024] p hF.slices_S2x8448x2560_S2x8448x256_0_0_1024) hF.bitsLt_bf16_f32 (ix3 b n d) = p (ix3 b n ⟨1024 + d.val, by omega⟩) := by pointwise
    rw [← r]
    exact e
  · rw [hk]
    have e := entry _ _ _ _ k h2 (ix3 b n d)
    have r : extf (F := Ideal) .f32 (extractStridedSlice S2x8448x256 ![0, 0, 512] kv hF.slices_S2x8448x1024_S2x8448x256_0_0_512) hF.bitsLt_bf16_f32 (ix3 b n d) = kv (ix3 b n ⟨512 + d.val, by omega⟩) := by pointwise
    rw [← r]
    exact e

end Cert.Att.Pre

end
-- ==== Proof.lean ====
/-
  The claims: no run of any program faults, the mask's constant is `−∞` by name, and the three kernels' result arrays are their
  references' (the mixture of experts on finite router inputs, the dense feed-forward always, the global attention on finite
  queries and keys).
-/
module

public import proofs.«01_k».proof.Defs
public import proofs.«01_k».proof.Proof.Gen.Kernel.Frame
public import proofs.«01_k».proof.Proof.Gen.Kernel2.Frame
public import proofs.«01_k».proof.Proof.Moe.Equation
public import proofs.«01_k».proof.Proof.Moe.Pre
public import proofs.«01_k».proof.Proof.Ffn.Equation
public import proofs.«01_k».proof.Proof.Gen.Kernel3.Frame
public import proofs.«01_k».proof.Proof.Att.Equation
public import proofs.«01_k».proof.Proof.Att.Pre
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference runs to its end with its arguments as they were and every counter zero. -/
theorem reference_quiet : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition on the kernel's arguments, as the layer's finiteness. -/
theorem finite_of_pre (hPre : Cert.Pre_finite_router_inputs.Facts) (m : (ℓ : Loc Cert.KernelIdeal.nD Cert.KernelIdeal.τ Cert.KernelIdeal.sig) → Buf (Elt Ideal) ℓ)
    (h : Pre_KernelIdeal_finite_router_inputs m) (c : Dev Cert.KernelIdeal.nD) : (Cert.Moe.layer m c).Finite :=
  Cert.Moe.Pre.finite _ _ _ _ _ _ _ _ _ _ (fun _ _ _ => rfl) (fun _ _ _ => rfl) (fun _ _ => rfl) (fun _ => rfl) (fun _ _ => rfl) (fun _ => rfl) _
    (congrFun (h c) (fun k => k.elim0))

theorem algebraic (hPre : Cert.Pre_finite_router_inputs.Facts) : algebraic_KernelIdeal_ReferenceIdeal_pre_finite_router_inputs := by
  intro m ρ m' ρ' hfin hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  show Cert.Moe.Reference.result (StableHlo.launchContents m' c) = _
  have hl : Cert.Moe.Reference.layer (StableHlo.launchContents m' c) = Cert.Moe.layer m c := by
    obtain ⟨h0, h1, h2, h3, h4, h5, h6, h7, h8⟩ := hagree c
    simp only [Cert.Moe.Reference.layer, Cert.Moe.layer, Cert.Moe.Layer.mk.injEq]
    exact ⟨funext fun b => funext fun n => funext fun d => congrFun h0 (ix3 b n d), funext fun b => funext fun k => funext fun d => congrFun h1 (ix3 b k d),
      funext fun k => funext fun d => congrFun h2 (ix2 k d), funext fun d => congrFun h3 (ix1 d), funext fun y => funext fun e => congrFun h4 (ix2 y e),
      funext fun e => congrFun h5 (ix1 e), funext fun e => funext fun y => funext fun j => congrFun h6 (ix3 e y j),
      funext fun e => funext fun y => funext fun j => congrFun h7 (ix3 e y j), funext fun e => funext fun j => funext fun d => congrFun h8 (ix3 e j d)⟩
  funext i
  rw [eq_ix3 i]
  exact Cert.Moe.arrays_eq m _ c (finite_of_pre hPre m hfin c) hl (i 0) (i 1) (i 2)

/-- The reference of the dense feed-forward runs to its end with its arguments as they were and every counter zero. -/
theorem reference2_quiet : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The dense feed-forward's result array is its reference's, whatever the arguments hold. -/
theorem algebraic2 : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨(h c).1.trans ?_, (h c).2⟩) (Cert.Reference2Ideal.Value.run (F := Ideal) m' ρ')
  have hl : Cert.Ffn.Reference.layer m' c = Cert.Ffn.layer m c := by
    obtain ⟨h0, h1, h2, h3, h4, h5, h6⟩ := hagree c
    simp only [Cert.Ffn.Reference.layer, Cert.Ffn.layer, Cert.Ffn.Layer.mk.injEq]
    exact ⟨funext fun b => funext fun n => funext fun d => congrFun h0 (ix3 b n d), funext fun b => funext fun k => funext fun d => congrFun h1 (ix3 b k d),
      funext fun k => funext fun d => congrFun h2 (ix2 k d), funext fun d => congrFun h3 (ix1 d), funext fun y => funext fun j => congrFun h4 (ix2 y j),
      funext fun y => funext fun j => congrFun h5 (ix2 y j), funext fun j => funext fun d => congrFun h6 (ix2 j d)⟩
  funext i
  rw [eq_ix3 i]
  exact Cert.Ffn.arrays_eq m m' c hl (i 0) (i 1) (i 2)

/-- The reference of the global attention runs to its end with its arguments as they were and every counter zero. -/
theorem reference3_quiet : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The precondition on the attention's arguments, as the heads' finiteness. -/
theorem heads_finite_of_pre (hPre : Cert.Pre_finite_queries_and_keys.Facts) (m : (ℓ : Loc Cert.Kernel3Ideal.nD Cert.Kernel3Ideal.τ Cert.Kernel3Ideal.sig) → Buf (Elt Ideal) ℓ)
    (h : Pre_Kernel3Ideal_finite_queries_and_keys m) (c : Dev Cert.Kernel3Ideal.nD) : (Cert.Att.heads m c).Finite :=
  Cert.Att.Pre.finite _ _ _ (fun _ _ _ => rfl) (fun _ _ _ => rfl) _ (congrFun (h c) (fun k => k.elim0))

/-- The global attention's result array is its reference's on finite queries and keys. -/
theorem algebraic3 (hPre : Cert.Pre_finite_queries_and_keys.Facts) : algebraic_Kernel3Ideal_Reference3Ideal_pre_finite_queries_and_keys := by
  intro m ρ m' ρ' hfin hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  have hl : Cert.Att.Reference.heads m' c = Cert.Att.heads m c := by
    obtain ⟨h0, h1⟩ := hagree c
    simp only [Cert.Att.Reference.heads, Cert.Att.Reference.headsOf, Cert.Att.heads, Cert.Att.Heads.mk.injEq]
    exact ⟨funext fun b => funext fun n => funext fun d => congrFun h0 (ix3 b n _), funext fun b => funext fun n => funext fun d => congrFun h1 (ix3 b n _),
      funext fun b => funext fun n => funext fun d => congrFun h1 (ix3 b n _)⟩
  funext i
  rw [eq_ix3 i]
  exact Cert.Att.arrays_eq m m' (heads_finite_of_pre hPre m hfin) c hl (i 0) (i 1) (i 2)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Moe.Pre.facts, Cert.Att.Pre.facts,
    fun m ρ _ => Cert.Kernel.Gen.frame m ρ, fun m ρ _ => Cert.KernelIdeal.Gen.frame m ρ, fun m ρ _ => Cert.KernelIdeal.Gen.frame m ρ,
    reference_quiet, fun m ρ _ => reference_quiet m ρ trivial,
    fun m ρ _ => Cert.Kernel2.Gen.frame m ρ, fun m ρ _ => Cert.Kernel2Ideal.Gen.frame m ρ, reference2_quiet,
    fun m ρ _ => Cert.Kernel3.Gen.frame m ρ, fun m ρ _ => Cert.Kernel3Ideal.Gen.frame m ρ, fun m ρ _ => Cert.Kernel3Ideal.Gen.frame m ρ,
    reference3_quiet, fun m ρ _ => reference3_quiet m ρ trivial,
    IdealRules.named_const.statement _ _ _ _ _ rfl, algebraic Cert.Moe.Pre.facts, trivial, algebraic2,
    IdealRules.named_const.statement _ _ _ _ _ rfl, algebraic3 Cert.Att.Pre.facts⟩

end Cert.Proof

end
